-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S31x16x512 : Shape := ⟨3, ![31, 16, 512]⟩
abbrev S31 : Shape := ⟨1, ![31]⟩
abbrev S_ : Shape := ⟨0, ![]⟩
abbrev S1 : Shape := ⟨1, ![1]⟩
abbrev S1x16x512 : Shape := ⟨3, ![1, 16, 512]⟩
abbrev S16x512 : Shape := ⟨2, ![16, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S31x16x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_130 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v136 : BitVec 32 := Scalar.addi v2 c1_i32_130
  let c32_i32_131 : BitVec 32 := 32#32
  let v137 : BitVec 32 := Scalar.remsi v136 c32_i32_131
  let c16_i32_132 : BitVec 32 := 16#32
  let v138 : BitVec 32 := Scalar.muli v137 c16_i32_132
  let c0_i32_140 : BitVec 32 := 0#32
  ![v138.toNat, 0]
def k0_dev32 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_130 : BitVec 32 := 1#32
  let v136 : BitVec 32 := Scalar.addi v2 c1_i32_130
  let c32_i32_131 : BitVec 32 := 32#32
  let v137 : BitVec 32 := Scalar.remsi v136 c32_i32_131
  let c1_i32_136 : BitVec 32 := 1#32
  let v139 : BitVec 32 := Scalar.muli v137 c1_i32_136
  let v140 : BitVec 32 := Scalar.addi c0_i32_137 v139
  v140.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v148 : BitVec 32 := Scalar.addi v2 c2_i32_141
  let c32_i32_142 : BitVec 32 := 32#32
  let v149 : BitVec 32 := Scalar.remsi v148 c32_i32_142
  let c1_i32_147 : BitVec 32 := 1#32
  let v151 : BitVec 32 := Scalar.muli v149 c1_i32_147
  let v152 : BitVec 32 := Scalar.addi c0_i32_148 v151
  v152.toNat
def k0_dev34 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_152 : BitVec 32 := 3#32
  let v160 : BitVec 32 := Scalar.addi v2 c3_i32_152
  let c32_i32_153 : BitVec 32 := 32#32
  let v161 : BitVec 32 := Scalar.remsi v160 c32_i32_153
  let c1_i32_158 : BitVec 32 := 1#32
  let v163 : BitVec 32 := Scalar.muli v161 c1_i32_158
  let v164 : BitVec 32 := Scalar.addi c0_i32_159 v163
  v164.toNat
def k0_dev35 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_163 : BitVec 32 := 4#32
  let v172 : BitVec 32 := Scalar.addi v2 c4_i32_163
  let c32_i32_164 : BitVec 32 := 32#32
  let v173 : BitVec 32 := Scalar.remsi v172 c32_i32_164
  let c1_i32_169 : BitVec 32 := 1#32
  let v175 : BitVec 32 := Scalar.muli v173 c1_i32_169
  let v176 : BitVec 32 := Scalar.addi c0_i32_170 v175
  v176.toNat
def k0_dev36 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_174 : BitVec 32 := 5#32
  let v184 : BitVec 32 := Scalar.addi v2 c5_i32_174
  let c32_i32_175 : BitVec 32 := 32#32
  let v185 : BitVec 32 := Scalar.remsi v184 c32_i32_175
  let c1_i32_180 : BitVec 32 := 1#32
  let v187 : BitVec 32 := Scalar.muli v185 c1_i32_180
  let v188 : BitVec 32 := Scalar.addi c0_i32_181 v187
  v188.toNat
def k0_dev37 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_185 : BitVec 32 := 6#32
  let v196 : BitVec 32 := Scalar.addi v2 c6_i32_185
  let c32_i32_186 : BitVec 32 := 32#32
  let v197 : BitVec 32 := Scalar.remsi v196 c32_i32_186
  let c1_i32_191 : BitVec 32 := 1#32
  let v199 : BitVec 32 := Scalar.muli v197 c1_i32_191
  let v200 : BitVec 32 := Scalar.addi c0_i32_192 v199
  v200.toNat
def k0_dev38 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_196 : BitVec 32 := 7#32
  let v208 : BitVec 32 := Scalar.addi v2 c7_i32_196
  let c32_i32_197 : BitVec 32 := 32#32
  let v209 : BitVec 32 := Scalar.remsi v208 c32_i32_197
  let c1_i32_202 : BitVec 32 := 1#32
  let v211 : BitVec 32 := Scalar.muli v209 c1_i32_202
  let v212 : BitVec 32 := Scalar.addi c0_i32_203 v211
  v212.toNat
def k0_dev39 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_207 : BitVec 32 := 8#32
  let v220 : BitVec 32 := Scalar.addi v2 c8_i32_207
  let c32_i32_208 : BitVec 32 := 32#32
  let v221 : BitVec 32 := Scalar.remsi v220 c32_i32_208
  let c1_i32_213 : BitVec 32 := 1#32
  let v223 : BitVec 32 := Scalar.muli v221 c1_i32_213
  let v224 : BitVec 32 := Scalar.addi c0_i32_214 v223
  v224.toNat
def k0_dev40 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_218 : BitVec 32 := 9#32
  let v232 : BitVec 32 := Scalar.addi v2 c9_i32_218
  let c32_i32_219 : BitVec 32 := 32#32
  let v233 : BitVec 32 := Scalar.remsi v232 c32_i32_219
  let c1_i32_224 : BitVec 32 := 1#32
  let v235 : BitVec 32 := Scalar.muli v233 c1_i32_224
  let v236 : BitVec 32 := Scalar.addi c0_i32_225 v235
  v236.toNat
def k0_dev41 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_229 : BitVec 32 := 10#32
  let v244 : BitVec 32 := Scalar.addi v2 c10_i32_229
  let c32_i32_230 : BitVec 32 := 32#32
  let v245 : BitVec 32 := Scalar.remsi v244 c32_i32_230
  let c1_i32_235 : BitVec 32 := 1#32
  let v247 : BitVec 32 := Scalar.muli v245 c1_i32_235
  let v248 : BitVec 32 := Scalar.addi c0_i32_236 v247
  v248.toNat
def k0_dev42 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_240 : BitVec 32 := 11#32
  let v256 : BitVec 32 := Scalar.addi v2 c11_i32_240
  let c32_i32_241 : BitVec 32 := 32#32
  let v257 : BitVec 32 := Scalar.remsi v256 c32_i32_241
  let c1_i32_246 : BitVec 32 := 1#32
  let v259 : BitVec 32 := Scalar.muli v257 c1_i32_246
  let v260 : BitVec 32 := Scalar.addi c0_i32_247 v259
  v260.toNat
def k0_dev43 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_251 : BitVec 32 := 12#32
  let v268 : BitVec 32 := Scalar.addi v2 c12_i32_251
  let c32_i32_252 : BitVec 32 := 32#32
  let v269 : BitVec 32 := Scalar.remsi v268 c32_i32_252
  let c1_i32_257 : BitVec 32 := 1#32
  let v271 : BitVec 32 := Scalar.muli v269 c1_i32_257
  let v272 : BitVec 32 := Scalar.addi c0_i32_258 v271
  v272.toNat
def k0_dev44 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_262 : BitVec 32 := 13#32
  let v280 : BitVec 32 := Scalar.addi v2 c13_i32_262
  let c32_i32_263 : BitVec 32 := 32#32
  let v281 : BitVec 32 := Scalar.remsi v280 c32_i32_263
  let c1_i32_268 : BitVec 32 := 1#32
  let v283 : BitVec 32 := Scalar.muli v281 c1_i32_268
  let v284 : BitVec 32 := Scalar.addi c0_i32_269 v283
  v284.toNat
def k0_dev45 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_273 : BitVec 32 := 14#32
  let v292 : BitVec 32 := Scalar.addi v2 c14_i32_273
  let c32_i32_274 : BitVec 32 := 32#32
  let v293 : BitVec 32 := Scalar.remsi v292 c32_i32_274
  let c1_i32_279 : BitVec 32 := 1#32
  let v295 : BitVec 32 := Scalar.muli v293 c1_i32_279
  let v296 : BitVec 32 := Scalar.addi c0_i32_280 v295
  v296.toNat
def k0_dev46 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_284 : BitVec 32 := 15#32
  let v304 : BitVec 32 := Scalar.addi v2 c15_i32_284
  let c32_i32_285 : BitVec 32 := 32#32
  let v305 : BitVec 32 := Scalar.remsi v304 c32_i32_285
  let c1_i32_290 : BitVec 32 := 1#32
  let v307 : BitVec 32 := Scalar.muli v305 c1_i32_290
  let v308 : BitVec 32 := Scalar.addi c0_i32_291 v307
  v308.toNat
def k0_dev47 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_295 : BitVec 32 := 16#32
  let v316 : BitVec 32 := Scalar.addi v2 c16_i32_295
  let c32_i32_296 : BitVec 32 := 32#32
  let v317 : BitVec 32 := Scalar.remsi v316 c32_i32_296
  let c1_i32_301 : BitVec 32 := 1#32
  let v319 : BitVec 32 := Scalar.muli v317 c1_i32_301
  let v320 : BitVec 32 := Scalar.addi c0_i32_302 v319
  v320.toNat
def k0_dev48 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_306 : BitVec 32 := 17#32
  let v328 : BitVec 32 := Scalar.addi v2 c17_i32_306
  let c32_i32_307 : BitVec 32 := 32#32
  let v329 : BitVec 32 := Scalar.remsi v328 c32_i32_307
  let c1_i32_312 : BitVec 32 := 1#32
  let v331 : BitVec 32 := Scalar.muli v329 c1_i32_312
  let v332 : BitVec 32 := Scalar.addi c0_i32_313 v331
  v332.toNat
def k0_dev49 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_317 : BitVec 32 := 18#32
  let v340 : BitVec 32 := Scalar.addi v2 c18_i32_317
  let c32_i32_318 : BitVec 32 := 32#32
  let v341 : BitVec 32 := Scalar.remsi v340 c32_i32_318
  let c1_i32_323 : BitVec 32 := 1#32
  let v343 : BitVec 32 := Scalar.muli v341 c1_i32_323
  let v344 : BitVec 32 := Scalar.addi c0_i32_324 v343
  v344.toNat
def k0_dev50 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_328 : BitVec 32 := 19#32
  let v352 : BitVec 32 := Scalar.addi v2 c19_i32_328
  let c32_i32_329 : BitVec 32 := 32#32
  let v353 : BitVec 32 := Scalar.remsi v352 c32_i32_329
  let c1_i32_334 : BitVec 32 := 1#32
  let v355 : BitVec 32 := Scalar.muli v353 c1_i32_334
  let v356 : BitVec 32 := Scalar.addi c0_i32_335 v355
  v356.toNat
def k0_dev51 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_339 : BitVec 32 := 20#32
  let v364 : BitVec 32 := Scalar.addi v2 c20_i32_339
  let c32_i32_340 : BitVec 32 := 32#32
  let v365 : BitVec 32 := Scalar.remsi v364 c32_i32_340
  let c1_i32_345 : BitVec 32 := 1#32
  let v367 : BitVec 32 := Scalar.muli v365 c1_i32_345
  let v368 : BitVec 32 := Scalar.addi c0_i32_346 v367
  v368.toNat
def k0_dev52 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_350 : BitVec 32 := 21#32
  let v376 : BitVec 32 := Scalar.addi v2 c21_i32_350
  let c32_i32_351 : BitVec 32 := 32#32
  let v377 : BitVec 32 := Scalar.remsi v376 c32_i32_351
  let c1_i32_356 : BitVec 32 := 1#32
  let v379 : BitVec 32 := Scalar.muli v377 c1_i32_356
  let v380 : BitVec 32 := Scalar.addi c0_i32_357 v379
  v380.toNat
def k0_dev53 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_361 : BitVec 32 := 22#32
  let v388 : BitVec 32 := Scalar.addi v2 c22_i32_361
  let c32_i32_362 : BitVec 32 := 32#32
  let v389 : BitVec 32 := Scalar.remsi v388 c32_i32_362
  let c1_i32_367 : BitVec 32 := 1#32
  let v391 : BitVec 32 := Scalar.muli v389 c1_i32_367
  let v392 : BitVec 32 := Scalar.addi c0_i32_368 v391
  v392.toNat
def k0_dev54 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_372 : BitVec 32 := 23#32
  let v400 : BitVec 32 := Scalar.addi v2 c23_i32_372
  let c32_i32_373 : BitVec 32 := 32#32
  let v401 : BitVec 32 := Scalar.remsi v400 c32_i32_373
  let c1_i32_378 : BitVec 32 := 1#32
  let v403 : BitVec 32 := Scalar.muli v401 c1_i32_378
  let v404 : BitVec 32 := Scalar.addi c0_i32_379 v403
  v404.toNat
def k0_dev55 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_383 : BitVec 32 := 24#32
  let v412 : BitVec 32 := Scalar.addi v2 c24_i32_383
  let c32_i32_384 : BitVec 32 := 32#32
  let v413 : BitVec 32 := Scalar.remsi v412 c32_i32_384
  let c1_i32_389 : BitVec 32 := 1#32
  let v415 : BitVec 32 := Scalar.muli v413 c1_i32_389
  let v416 : BitVec 32 := Scalar.addi c0_i32_390 v415
  v416.toNat
def k0_dev56 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_394 : BitVec 32 := 25#32
  let v424 : BitVec 32 := Scalar.addi v2 c25_i32_394
  let c32_i32_395 : BitVec 32 := 32#32
  let v425 : BitVec 32 := Scalar.remsi v424 c32_i32_395
  let c1_i32_400 : BitVec 32 := 1#32
  let v427 : BitVec 32 := Scalar.muli v425 c1_i32_400
  let v428 : BitVec 32 := Scalar.addi c0_i32_401 v427
  v428.toNat
def k0_dev57 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_405 : BitVec 32 := 26#32
  let v436 : BitVec 32 := Scalar.addi v2 c26_i32_405
  let c32_i32_406 : BitVec 32 := 32#32
  let v437 : BitVec 32 := Scalar.remsi v436 c32_i32_406
  let c1_i32_411 : BitVec 32 := 1#32
  let v439 : BitVec 32 := Scalar.muli v437 c1_i32_411
  let v440 : BitVec 32 := Scalar.addi c0_i32_412 v439
  v440.toNat
def k0_dev58 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_416 : BitVec 32 := 27#32
  let v448 : BitVec 32 := Scalar.addi v2 c27_i32_416
  let c32_i32_417 : BitVec 32 := 32#32
  let v449 : BitVec 32 := Scalar.remsi v448 c32_i32_417
  let c1_i32_422 : BitVec 32 := 1#32
  let v451 : BitVec 32 := Scalar.muli v449 c1_i32_422
  let v452 : BitVec 32 := Scalar.addi c0_i32_423 v451
  v452.toNat
def k0_dev59 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_427 : BitVec 32 := 28#32
  let v460 : BitVec 32 := Scalar.addi v2 c28_i32_427
  let c32_i32_428 : BitVec 32 := 32#32
  let v461 : BitVec 32 := Scalar.remsi v460 c32_i32_428
  let c1_i32_433 : BitVec 32 := 1#32
  let v463 : BitVec 32 := Scalar.muli v461 c1_i32_433
  let v464 : BitVec 32 := Scalar.addi c0_i32_434 v463
  v464.toNat
def k0_dev60 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_438 : BitVec 32 := 29#32
  let v472 : BitVec 32 := Scalar.addi v2 c29_i32_438
  let c32_i32_439 : BitVec 32 := 32#32
  let v473 : BitVec 32 := Scalar.remsi v472 c32_i32_439
  let c1_i32_444 : BitVec 32 := 1#32
  let v475 : BitVec 32 := Scalar.muli v473 c1_i32_444
  let v476 : BitVec 32 := Scalar.addi c0_i32_445 v475
  v476.toNat
def k0_dev61 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_449 : BitVec 32 := 30#32
  let v484 : BitVec 32 := Scalar.addi v2 c30_i32_449
  let c32_i32_450 : BitVec 32 := 32#32
  let v485 : BitVec 32 := Scalar.remsi v484 c32_i32_450
  let c1_i32_455 : BitVec 32 := 1#32
  let v487 : BitVec 32 := Scalar.muli v485 c1_i32_455
  let v488 : BitVec 32 := Scalar.addi c0_i32_456 v487
  v488.toNat
def k0_dev62 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_460 : BitVec 32 := 31#32
  let v496 : BitVec 32 := Scalar.addi v2 c31_i32_460
  let c32_i32_461 : BitVec 32 := 32#32
  let v497 : BitVec 32 := Scalar.remsi v496 c32_i32_461
  let c1_i32_466 : BitVec 32 := 1#32
  let v499 : BitVec 32 := Scalar.muli v497 c1_i32_466
  let v500 : BitVec 32 := Scalar.addi c0_i32_467 v499
  v500.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_471 : BitVec 32 := 16#32
  let v508 : BitVec 32 := Scalar.muli v2 c16_i32_471
  let v509 : Index := Scalar.indexCast v508
  let c0_472 : Index := 0#32
  ![v509.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_855 : BitVec 32 := 16#32
  let v871 : BitVec 32 := Scalar.muli v2 c16_i32_855
  let c0_i32_860 : BitVec 32 := 0#32
  ![v871.toNat, 0]
def k0_dev63 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_852 : BitVec 32 := 1#32
  let v868 : BitVec 32 := Scalar.addi v2 c1_i32_852
  let c32_i32_853 : BitVec 32 := 32#32
  let v869 : BitVec 32 := Scalar.remsi v868 c32_i32_853
  let c1_i32_858 : BitVec 32 := 1#32
  let v872 : BitVec 32 := Scalar.muli v869 c1_i32_858
  let v873 : BitVec 32 := Scalar.addi c0_i32_859 v872
  v873.toNat
def k0_dev64 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_862 : BitVec 32 := 2#32
  let v880 : BitVec 32 := Scalar.addi v2 c2_i32_862
  let c32_i32_863 : BitVec 32 := 32#32
  let v881 : BitVec 32 := Scalar.remsi v880 c32_i32_863
  let c1_i32_868 : BitVec 32 := 1#32
  let v884 : BitVec 32 := Scalar.muli v881 c1_i32_868
  let v885 : BitVec 32 := Scalar.addi c0_i32_869 v884
  v885.toNat
def k0_dev65 (d0 : Dev nD) : Nat :=
  let c0_i32_879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_872 : BitVec 32 := 3#32
  let v892 : BitVec 32 := Scalar.addi v2 c3_i32_872
  let c32_i32_873 : BitVec 32 := 32#32
  let v893 : BitVec 32 := Scalar.remsi v892 c32_i32_873
  let c1_i32_878 : BitVec 32 := 1#32
  let v896 : BitVec 32 := Scalar.muli v893 c1_i32_878
  let v897 : BitVec 32 := Scalar.addi c0_i32_879 v896
  v897.toNat
def k0_dev66 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_882 : BitVec 32 := 4#32
  let v904 : BitVec 32 := Scalar.addi v2 c4_i32_882
  let c32_i32_883 : BitVec 32 := 32#32
  let v905 : BitVec 32 := Scalar.remsi v904 c32_i32_883
  let c1_i32_888 : BitVec 32 := 1#32
  let v908 : BitVec 32 := Scalar.muli v905 c1_i32_888
  let v909 : BitVec 32 := Scalar.addi c0_i32_889 v908
  v909.toNat
def k0_dev67 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_892 : BitVec 32 := 5#32
  let v916 : BitVec 32 := Scalar.addi v2 c5_i32_892
  let c32_i32_893 : BitVec 32 := 32#32
  let v917 : BitVec 32 := Scalar.remsi v916 c32_i32_893
  let c1_i32_898 : BitVec 32 := 1#32
  let v920 : BitVec 32 := Scalar.muli v917 c1_i32_898
  let v921 : BitVec 32 := Scalar.addi c0_i32_899 v920
  v921.toNat
def k0_dev68 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_902 : BitVec 32 := 6#32
  let v928 : BitVec 32 := Scalar.addi v2 c6_i32_902
  let c32_i32_903 : BitVec 32 := 32#32
  let v929 : BitVec 32 := Scalar.remsi v928 c32_i32_903
  let c1_i32_908 : BitVec 32 := 1#32
  let v932 : BitVec 32 := Scalar.muli v929 c1_i32_908
  let v933 : BitVec 32 := Scalar.addi c0_i32_909 v932
  v933.toNat
def k0_dev69 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_912 : BitVec 32 := 7#32
  let v940 : BitVec 32 := Scalar.addi v2 c7_i32_912
  let c32_i32_913 : BitVec 32 := 32#32
  let v941 : BitVec 32 := Scalar.remsi v940 c32_i32_913
  let c1_i32_918 : BitVec 32 := 1#32
  let v944 : BitVec 32 := Scalar.muli v941 c1_i32_918
  let v945 : BitVec 32 := Scalar.addi c0_i32_919 v944
  v945.toNat
def k0_dev70 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_922 : BitVec 32 := 8#32
  let v952 : BitVec 32 := Scalar.addi v2 c8_i32_922
  let c32_i32_923 : BitVec 32 := 32#32
  let v953 : BitVec 32 := Scalar.remsi v952 c32_i32_923
  let c1_i32_928 : BitVec 32 := 1#32
  let v956 : BitVec 32 := Scalar.muli v953 c1_i32_928
  let v957 : BitVec 32 := Scalar.addi c0_i32_929 v956
  v957.toNat
def k0_dev71 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_932 : BitVec 32 := 9#32
  let v964 : BitVec 32 := Scalar.addi v2 c9_i32_932
  let c32_i32_933 : BitVec 32 := 32#32
  let v965 : BitVec 32 := Scalar.remsi v964 c32_i32_933
  let c1_i32_938 : BitVec 32 := 1#32
  let v968 : BitVec 32 := Scalar.muli v965 c1_i32_938
  let v969 : BitVec 32 := Scalar.addi c0_i32_939 v968
  v969.toNat
def k0_dev72 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_942 : BitVec 32 := 10#32
  let v976 : BitVec 32 := Scalar.addi v2 c10_i32_942
  let c32_i32_943 : BitVec 32 := 32#32
  let v977 : BitVec 32 := Scalar.remsi v976 c32_i32_943
  let c1_i32_948 : BitVec 32 := 1#32
  let v980 : BitVec 32 := Scalar.muli v977 c1_i32_948
  let v981 : BitVec 32 := Scalar.addi c0_i32_949 v980
  v981.toNat
def k0_dev73 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_952 : BitVec 32 := 11#32
  let v988 : BitVec 32 := Scalar.addi v2 c11_i32_952
  let c32_i32_953 : BitVec 32 := 32#32
  let v989 : BitVec 32 := Scalar.remsi v988 c32_i32_953
  let c1_i32_958 : BitVec 32 := 1#32
  let v992 : BitVec 32 := Scalar.muli v989 c1_i32_958
  let v993 : BitVec 32 := Scalar.addi c0_i32_959 v992
  v993.toNat
def k0_dev74 (d0 : Dev nD) : Nat :=
  let c0_i32_969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_962 : BitVec 32 := 12#32
  let v1000 : BitVec 32 := Scalar.addi v2 c12_i32_962
  let c32_i32_963 : BitVec 32 := 32#32
  let v1001 : BitVec 32 := Scalar.remsi v1000 c32_i32_963
  let c1_i32_968 : BitVec 32 := 1#32
  let v1004 : BitVec 32 := Scalar.muli v1001 c1_i32_968
  let v1005 : BitVec 32 := Scalar.addi c0_i32_969 v1004
  v1005.toNat
def k0_dev75 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_972 : BitVec 32 := 13#32
  let v1012 : BitVec 32 := Scalar.addi v2 c13_i32_972
  let c32_i32_973 : BitVec 32 := 32#32
  let v1013 : BitVec 32 := Scalar.remsi v1012 c32_i32_973
  let c1_i32_978 : BitVec 32 := 1#32
  let v1016 : BitVec 32 := Scalar.muli v1013 c1_i32_978
  let v1017 : BitVec 32 := Scalar.addi c0_i32_979 v1016
  v1017.toNat
def k0_dev76 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_982 : BitVec 32 := 14#32
  let v1024 : BitVec 32 := Scalar.addi v2 c14_i32_982
  let c32_i32_983 : BitVec 32 := 32#32
  let v1025 : BitVec 32 := Scalar.remsi v1024 c32_i32_983
  let c1_i32_988 : BitVec 32 := 1#32
  let v1028 : BitVec 32 := Scalar.muli v1025 c1_i32_988
  let v1029 : BitVec 32 := Scalar.addi c0_i32_989 v1028
  v1029.toNat
def k0_dev77 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_992 : BitVec 32 := 15#32
  let v1036 : BitVec 32 := Scalar.addi v2 c15_i32_992
  let c32_i32_993 : BitVec 32 := 32#32
  let v1037 : BitVec 32 := Scalar.remsi v1036 c32_i32_993
  let c1_i32_998 : BitVec 32 := 1#32
  let v1040 : BitVec 32 := Scalar.muli v1037 c1_i32_998
  let v1041 : BitVec 32 := Scalar.addi c0_i32_999 v1040
  v1041.toNat
def k0_dev78 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1002 : BitVec 32 := 16#32
  let v1048 : BitVec 32 := Scalar.addi v2 c16_i32_1002
  let c32_i32_1003 : BitVec 32 := 32#32
  let v1049 : BitVec 32 := Scalar.remsi v1048 c32_i32_1003
  let c1_i32_1008 : BitVec 32 := 1#32
  let v1052 : BitVec 32 := Scalar.muli v1049 c1_i32_1008
  let v1053 : BitVec 32 := Scalar.addi c0_i32_1009 v1052
  v1053.toNat
def k0_dev79 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1012 : BitVec 32 := 17#32
  let v1060 : BitVec 32 := Scalar.addi v2 c17_i32_1012
  let c32_i32_1013 : BitVec 32 := 32#32
  let v1061 : BitVec 32 := Scalar.remsi v1060 c32_i32_1013
  let c1_i32_1018 : BitVec 32 := 1#32
  let v1064 : BitVec 32 := Scalar.muli v1061 c1_i32_1018
  let v1065 : BitVec 32 := Scalar.addi c0_i32_1019 v1064
  v1065.toNat
def k0_dev80 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1022 : BitVec 32 := 18#32
  let v1072 : BitVec 32 := Scalar.addi v2 c18_i32_1022
  let c32_i32_1023 : BitVec 32 := 32#32
  let v1073 : BitVec 32 := Scalar.remsi v1072 c32_i32_1023
  let c1_i32_1028 : BitVec 32 := 1#32
  let v1076 : BitVec 32 := Scalar.muli v1073 c1_i32_1028
  let v1077 : BitVec 32 := Scalar.addi c0_i32_1029 v1076
  v1077.toNat
def k0_dev81 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1032 : BitVec 32 := 19#32
  let v1084 : BitVec 32 := Scalar.addi v2 c19_i32_1032
  let c32_i32_1033 : BitVec 32 := 32#32
  let v1085 : BitVec 32 := Scalar.remsi v1084 c32_i32_1033
  let c1_i32_1038 : BitVec 32 := 1#32
  let v1088 : BitVec 32 := Scalar.muli v1085 c1_i32_1038
  let v1089 : BitVec 32 := Scalar.addi c0_i32_1039 v1088
  v1089.toNat
def k0_dev82 (d0 : Dev nD) : Nat :=
  let c0_i32_1049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1042 : BitVec 32 := 20#32
  let v1096 : BitVec 32 := Scalar.addi v2 c20_i32_1042
  let c32_i32_1043 : BitVec 32 := 32#32
  let v1097 : BitVec 32 := Scalar.remsi v1096 c32_i32_1043
  let c1_i32_1048 : BitVec 32 := 1#32
  let v1100 : BitVec 32 := Scalar.muli v1097 c1_i32_1048
  let v1101 : BitVec 32 := Scalar.addi c0_i32_1049 v1100
  v1101.toNat
def k0_dev83 (d0 : Dev nD) : Nat :=
  let c0_i32_1059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1052 : BitVec 32 := 21#32
  let v1108 : BitVec 32 := Scalar.addi v2 c21_i32_1052
  let c32_i32_1053 : BitVec 32 := 32#32
  let v1109 : BitVec 32 := Scalar.remsi v1108 c32_i32_1053
  let c1_i32_1058 : BitVec 32 := 1#32
  let v1112 : BitVec 32 := Scalar.muli v1109 c1_i32_1058
  let v1113 : BitVec 32 := Scalar.addi c0_i32_1059 v1112
  v1113.toNat
def k0_dev84 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1062 : BitVec 32 := 22#32
  let v1120 : BitVec 32 := Scalar.addi v2 c22_i32_1062
  let c32_i32_1063 : BitVec 32 := 32#32
  let v1121 : BitVec 32 := Scalar.remsi v1120 c32_i32_1063
  let c1_i32_1068 : BitVec 32 := 1#32
  let v1124 : BitVec 32 := Scalar.muli v1121 c1_i32_1068
  let v1125 : BitVec 32 := Scalar.addi c0_i32_1069 v1124
  v1125.toNat
def k0_dev85 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1072 : BitVec 32 := 23#32
  let v1132 : BitVec 32 := Scalar.addi v2 c23_i32_1072
  let c32_i32_1073 : BitVec 32 := 32#32
  let v1133 : BitVec 32 := Scalar.remsi v1132 c32_i32_1073
  let c1_i32_1078 : BitVec 32 := 1#32
  let v1136 : BitVec 32 := Scalar.muli v1133 c1_i32_1078
  let v1137 : BitVec 32 := Scalar.addi c0_i32_1079 v1136
  v1137.toNat
def k0_dev86 (d0 : Dev nD) : Nat :=
  let c0_i32_1089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1082 : BitVec 32 := 24#32
  let v1144 : BitVec 32 := Scalar.addi v2 c24_i32_1082
  let c32_i32_1083 : BitVec 32 := 32#32
  let v1145 : BitVec 32 := Scalar.remsi v1144 c32_i32_1083
  let c1_i32_1088 : BitVec 32 := 1#32
  let v1148 : BitVec 32 := Scalar.muli v1145 c1_i32_1088
  let v1149 : BitVec 32 := Scalar.addi c0_i32_1089 v1148
  v1149.toNat
def k0_dev87 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1092 : BitVec 32 := 25#32
  let v1156 : BitVec 32 := Scalar.addi v2 c25_i32_1092
  let c32_i32_1093 : BitVec 32 := 32#32
  let v1157 : BitVec 32 := Scalar.remsi v1156 c32_i32_1093
  let c1_i32_1098 : BitVec 32 := 1#32
  let v1160 : BitVec 32 := Scalar.muli v1157 c1_i32_1098
  let v1161 : BitVec 32 := Scalar.addi c0_i32_1099 v1160
  v1161.toNat
def k0_dev88 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1102 : BitVec 32 := 26#32
  let v1168 : BitVec 32 := Scalar.addi v2 c26_i32_1102
  let c32_i32_1103 : BitVec 32 := 32#32
  let v1169 : BitVec 32 := Scalar.remsi v1168 c32_i32_1103
  let c1_i32_1108 : BitVec 32 := 1#32
  let v1172 : BitVec 32 := Scalar.muli v1169 c1_i32_1108
  let v1173 : BitVec 32 := Scalar.addi c0_i32_1109 v1172
  v1173.toNat
def k0_dev89 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1112 : BitVec 32 := 27#32
  let v1180 : BitVec 32 := Scalar.addi v2 c27_i32_1112
  let c32_i32_1113 : BitVec 32 := 32#32
  let v1181 : BitVec 32 := Scalar.remsi v1180 c32_i32_1113
  let c1_i32_1118 : BitVec 32 := 1#32
  let v1184 : BitVec 32 := Scalar.muli v1181 c1_i32_1118
  let v1185 : BitVec 32 := Scalar.addi c0_i32_1119 v1184
  v1185.toNat
def k0_dev90 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1122 : BitVec 32 := 28#32
  let v1192 : BitVec 32 := Scalar.addi v2 c28_i32_1122
  let c32_i32_1123 : BitVec 32 := 32#32
  let v1193 : BitVec 32 := Scalar.remsi v1192 c32_i32_1123
  let c1_i32_1128 : BitVec 32 := 1#32
  let v1196 : BitVec 32 := Scalar.muli v1193 c1_i32_1128
  let v1197 : BitVec 32 := Scalar.addi c0_i32_1129 v1196
  v1197.toNat
def k0_dev91 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1132 : BitVec 32 := 29#32
  let v1204 : BitVec 32 := Scalar.addi v2 c29_i32_1132
  let c32_i32_1133 : BitVec 32 := 32#32
  let v1205 : BitVec 32 := Scalar.remsi v1204 c32_i32_1133
  let c1_i32_1138 : BitVec 32 := 1#32
  let v1208 : BitVec 32 := Scalar.muli v1205 c1_i32_1138
  let v1209 : BitVec 32 := Scalar.addi c0_i32_1139 v1208
  v1209.toNat
def k0_dev92 (d0 : Dev nD) : Nat :=
  let c0_i32_1149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1142 : BitVec 32 := 30#32
  let v1216 : BitVec 32 := Scalar.addi v2 c30_i32_1142
  let c32_i32_1143 : BitVec 32 := 32#32
  let v1217 : BitVec 32 := Scalar.remsi v1216 c32_i32_1143
  let c1_i32_1148 : BitVec 32 := 1#32
  let v1220 : BitVec 32 := Scalar.muli v1217 c1_i32_1148
  let v1221 : BitVec 32 := Scalar.addi c0_i32_1149 v1220
  v1221.toNat
def k0_dev93 (d0 : Dev nD) : Nat :=
  let c0_i32_1159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1152 : BitVec 32 := 31#32
  let v1228 : BitVec 32 := Scalar.addi v2 c31_i32_1152
  let c32_i32_1153 : BitVec 32 := 32#32
  let v1229 : BitVec 32 := Scalar.remsi v1228 c32_i32_1153
  let c1_i32_1158 : BitVec 32 := 1#32
  let v1232 : BitVec 32 := Scalar.muli v1229 c1_i32_1158
  let v1233 : BitVec 32 := Scalar.addi c0_i32_1159 v1232
  v1233.toNat
def k0_off4 (d0 : Dev nD) (c1_i32_1162 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1240 : BitVec 32 := Scalar.subi v2 c1_i32_1162
  let c32_i32_1163 : BitVec 32 := 32#32
  let v1241 : BitVec 32 := Scalar.addi v1240 c32_i32_1163
  let c32_i32_1164 : BitVec 32 := 32#32
  let v1242 : BitVec 32 := Scalar.remsi v1241 c32_i32_1164
  let c16_i32_1166 : BitVec 32 := 16#32
  let v1244 : BitVec 32 := Scalar.muli v1242 c16_i32_1166
  let c0_i32_1171 : BitVec 32 := 0#32
  ![v1244.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
The protocol of the 32 devices, as a schedule of one round per semaphore cell.

Device `c` numbers the others twice over: `fwd c j` is the device `j + 1` places after it, `bwd c j` the device
`j + 1` places before it. Its `j`-th signal, its `j`-th reduce-scatter copy and its `j`-th all-gather copy all go to
`fwd c j`; what arrives on its `j`-th receive semaphores comes from `bwd c j`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.MemrefSat
public import Idealize.ShloMosaic.Lib.Tactic
public import Mathlib.Tactic.Abel

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet)

variable {F : FTy → Type} [FloatOps F]

/-! ## The resource algebra -/

/-- The duties of a cell are numbered by the 31 signals a device sends. -/
abbrev UB : Type := URounds (GSem nD τ sig) (Fin 31)
/-- The algebra of the proof: the pipeline's and the rounds'. -/
abbrev UU : Type := UR sig nD τ × UB

local notation "𝕄" => MT nD τ sig Unit (Elt F) ℕ UU ℕ

/-- The pipeline's algebra in the whole, -/
abbrev EP : Emb (UR sig nD τ) (MT nD τ sig Unit (Elt F) ℕ UU ℕ) := embL
/-- and the rounds'. -/
abbrev ER : Emb UB (MT nD τ sig Unit (Elt F) ℕ UU ℕ) := embR

variable (m : (ℓ : Loc nD τ sig) → Buf (Elt F) ℓ)

/-! ## The other devices, numbered from one device -/

/-- There are 32 devices. -/
theorem nD_eq : nD = 32 := rfl

/-- The device `j + 1` places after `c`. -/
def fwd (c : Dev nD) (j : Fin 31) : Dev nD := ⟨(c.val + j.val + 1) % 32, Nat.mod_lt _ (by decide)⟩
/-- The device `j + 1` places before `c`. -/
def bwd (c : Dev nD) (j : Fin 31) : Dev nD := ⟨(c.val + 31 - j.val) % 32, Nat.mod_lt _ (by decide)⟩
/-- The place whose step back is `j`'s step forward. -/
def rev (j : Fin 31) : Fin 31 := ⟨30 - j.val, by omega⟩

/-- A step forward and the same step back is no step, -/
theorem bwd_fwd (c : Dev nD) (j : Fin 31) : bwd (fwd c j) j = c := by
  have hc : c.val < 32 := c.isLt
  apply Fin.ext; simp only [bwd, fwd]; omega
/-- and the other way round. -/
theorem fwd_bwd (c : Dev nD) (j : Fin 31) : fwd (bwd c j) j = c := by
  have hc : c.val < 32 := c.isLt
  apply Fin.ext; simp only [bwd, fwd]; omega
/-- Reversing twice changes nothing. -/
theorem rev_rev (j : Fin 31) : rev (rev j) = j := by apply Fin.ext; simp only [rev]; omega
/-- The reversed step back is the step forward. -/
theorem bwd_rev (c : Dev nD) (j : Fin 31) : bwd c (rev j) = fwd c j := by
  apply Fin.ext; simp only [bwd, fwd, rev]; omega
/-- A step forward leads to another device, -/
theorem fwd_ne (c : Dev nD) (j : Fin 31) : fwd c j ≠ c := by
  intro h; have := congrArg Fin.val h; have hc : c.val < 32 := c.isLt; simp only [fwd] at this; omega
/-- and so does a step back. -/
theorem bwd_ne (c : Dev nD) (j : Fin 31) : bwd c j ≠ c := by rw [← rev_rev j, bwd_rev]; exact fwd_ne c _
/-- Different steps forward lead to different devices. -/
theorem fwd_inj (c : Dev nD) {j j' : Fin 31} (h : fwd c j = fwd c j') : j = j' := by
  have := congrArg Fin.val h; have hc : c.val < 32 := c.isLt; simp only [fwd] at this; apply Fin.ext; omega

/-- Going `j + 1` places forward is a bijection of the devices. -/
def around (j : Fin 31) : Dev nD ≃ Dev nD := ⟨fun c => fwd c j, fun c => bwd c j, fun c => bwd_fwd c j, fun c => fwd_bwd c j⟩

/-- Counting the other way round is a bijection of the places. -/
def revE : Fin 31 ≃ Fin 31 := ⟨rev, rev, rev_rev, rev_rev⟩

/-- Device `c` and the 31 others, counted forward from it, are all the devices. -/
def devsE (c : Dev nD) : Option (Fin 31) ≃ Dev nD :=
  Equiv.ofBijective (fun o => o.elim c (fwd c)) (by
    refine (Fintype.bijective_iff_injective_and_card _).mpr ⟨?_, by simp [nD_eq]⟩
    rintro (_ | j) (_ | j') h
    · rfl
    · exact absurd h.symm (fwd_ne c j')
    · exact absurd h (fwd_ne c j)
    · exact congrArg some (fwd_inj c h))

/-- The same devices counted backward. -/
def devsB (c : Dev nD) : Option (Fin 31) ≃ Dev nD := (Equiv.optionCongr revE).trans (devsE c)

/-- Counted forward, the first device is the one counted from, -/
theorem devsE_none (c : Dev nD) : devsE c none = c := rfl
/-- and the others are its steps forward. -/
theorem devsE_some (c : Dev nD) (j : Fin 31) : devsE c (some j) = fwd c j := rfl
/-- Counted backward, the first device is the one counted from, -/
theorem devsB_none (c : Dev nD) : devsB c none = c := rfl
/-- and the others are its steps back. -/
theorem devsB_some (c : Dev nD) (j : Fin 31) : devsB c (some j) = bwd c j := by
  show fwd c (rev j) = bwd c j
  rw [← bwd_rev, rev_rev]

/-! ## The memrefs -/

/-- The staging buffer of the first argument, -/
abbrev aM : Memref sig .tc .vmem S512x256 .f32 := Memref.whole cc0_stg0_0
/-- and of the second. -/
abbrev bM : Memref sig .tc .vmem S256x512 .f32 := Memref.whole cc0_stg1_0
/-- The output buffer. -/
abbrev oM : Memref sig .tc .vmem S512x512 .f32 := Memref.whole cc0_stg2_0
/-- The buffer of a device's own product. -/
abbrev pM : Memref sig .tc .vmem S512x512 .f32 := Memref.whole cc0_scratch0
/-- The buffer of the 31 blocks of rows received. -/
abbrev rM : Memref sig .tc .vmem S31x16x512 .f32 := Memref.whole cc0_scratch1

/-- Device `d`'s 16 rows lie in the array. -/
theorem row_inb (d : Dev nD) : ∀ a, (![16 * d.val, 0] : Fin 2 → ℕ) a + S16x512.size a ≤ S512x512.size a := by
  intro a; have h : d.val < 32 := d.isLt; fin_cases a <;> simp [S16x512, S512x512] <;> omega
/-- Slot `j` lies in the buffer of received blocks. -/
theorem slot_inb (j : Fin 31) : ∀ a, (![j.val, 0, 0] : Fin 3 → ℕ) a + S1x16x512.size a ≤ S31x16x512.size a := by
  intro a; have := j.isLt; fin_cases a <;> simp [S1x16x512, S31x16x512]; omega

/-- Device `d`'s 16 rows of a 512 by 512 buffer. -/
abbrev rowRect (d : Dev nD) : Rect S512x512 := Rect.unit (s := S512x512) ![16 * d.val, 0] S16x512.size (row_inb d)
/-- Device `d`'s 16 rows of a buffer of the result's shape, as a buffer. -/
abbrev rowsM (M : Memref sig .tc .vmem S512x512 .f32) (d : Dev nD) : Memref sig .tc .vmem S16x512 .f32 := M.slice (rowRect d) (fun _ => rfl)
/-- Slot `j` of the buffer of received blocks, -/
abbrev slotRect (j : Fin 31) : Rect S31x16x512 := Rect.unit (s := S31x16x512) ![j.val, 0, 0] S1x16x512.size (slot_inb j)
/-- as 16 rows. -/
abbrev slotM (j : Fin 31) : Memref sig .tc .vmem S16x512 .f32 :=
  (rM.slice (slotRect j) (fun _ => rfl)).squeeze S16x512 squeezes_S1x16x512_S16x512

/-- Device `d`'s rows of a 512 by 512 array. -/
def rowsOf {α : Type} (X : S512x512.Idx → α) (d : Dev nD) : S16x512.Idx → α := fun x => X ((rowRect d).emb x)

/-- What a copy of 16 rows is worth on its semaphores. -/
def N : ℕ := (rowsM oM 0).view.dmaCredit
/-- A copy of 16 rows is worth something. -/
theorem N_pos : 0 < N := View.dmaCredit_pos _ (by decide)
/-- A slot is worth a copy of 16 rows, -/
theorem credit_slot (j : Fin 31) : (slotM j).view.dmaCredit = N := rfl
/-- and so is a slot named by its offset, -/
theorem credit_slab {off : Fin 3 → ℕ} (hinb : ∀ a, off a + S1x16x512.size a ≤ S31x16x512.size a)
    (hsl : ∀ a, (Rect.unit (s := S31x16x512) off S1x16x512.size hinb).stride a = 1) :
    (((rM : Memref sig .tc .vmem S31x16x512 .f32).slice (Rect.unit (s := S31x16x512) off S1x16x512.size hinb) hsl).squeeze S16x512
      squeezes_S1x16x512_S16x512).view.dmaCredit = N := rfl
/-- 16 rows of the output named by theirs, -/
theorem credit_out {off : Fin 2 → ℕ} (hinb : ∀ a, off a + S16x512.size a ≤ S512x512.size a)
    (hsl : ∀ a, (Rect.unit (s := S512x512) off S16x512.size hinb).stride a = 1) :
    ((oM : Memref sig .tc .vmem S512x512 .f32).slice (Rect.unit (s := S512x512) off S16x512.size hinb) hsl).view.dmaCredit = N := rfl
/-- and 16 rows of the partial sums. -/
theorem credit_part {off : Fin 2 → ℕ} (hinb : ∀ a, off a + S16x512.size a ≤ S512x512.size a)
    (hsl : ∀ a, (Rect.unit (s := S512x512) off S16x512.size hinb).stride a = 1) :
    ((pM : Memref sig .tc .vmem S512x512 .f32).slice (Rect.unit (s := S512x512) off S16x512.size hinb) hsl).view.dmaCredit = N := rfl
attribute [irreducible] N

/-! ## The values -/

/-- Device `c`'s staged block of the first argument, -/
def xA (c : Dev nD) : (cc0_stg0_0 : Ref sig .tc).ty.Contents (Elt F) :=
  (win0_0.blk (0 : Fin 1)).view.read (Elt F) (m ((c : Thread nD τ).loc main_arg0))
/-- and of the second. -/
def xB (c : Dev nD) : (cc0_stg1_0 : Ref sig .tc).ty.Contents (Elt F) :=
  (win0_1.blk (0 : Fin 1)).view.read (Elt F) (m ((c : Thread nD τ).loc main_arg1))

/-- Device `c`'s own product, the partial sum it contributes. -/
def part (c : Dev nD) : FVec F S512x512 .f32 := k0_pay1 (xA m c) (xB m c)

/-- What device `c` reads in slot `j`: device `bwd c j`'s partial rows for `c`. -/
def slotV (c : Dev nD) (j : Fin 31) : Vec F S1x16x512 .f32 :=
  fun i => rowsOf (part m (bwd c j)) c ((Shape.reshapeEquiv squeezes_S1x16x512_S16x512.numel_eq).symm i)

/-- Device `c`'s rows of the sum after `k` slots. -/
def zsum (c : Dev nD) : ℕ → FVec F S16x512 .f32
  | 0 => rowsOf (part m c) c
  | k + 1 => addf (zsum c k) (shapeCast S16x512 (slotV m c ⟨k % 31, Nat.mod_lt _ (by decide)⟩) shapeCasts_S1x16x512_S16x512)

/-- Device `c`'s rows of the result. -/
def gout (c : Dev nD) : S16x512.Idx → Elt F .f32 := k0_pay15 (zsum m c 31)

/-! ## The cells -/

/-- The barrier semaphore. -/
abbrev barS : Sem sig := (SemArray.scalar (sig.barrier 0 rfl) : Sems sig S_).sem
/-- The `j`-th semaphore of the `q`-th array: the reduce-scatter's send (0) and receive (1), the all-gather's (2, 3). -/
def dsem (q : Fin 4) (j : Fin 31) : DmaSem sig := ⟨3 + 31 * q.val + j.val, by have := q.isLt; have := j.isLt; show _ < 127; omega⟩

/-- Device `c`'s barrier semaphore, -/
abbrev barCell (c : Dev nD) : GSem nD τ sig := ((c : Thread nD τ), .reg barS)
/-- and its `j`-th semaphore of the `q`-th array. -/
abbrev dcell (q : Fin 4) (c : Dev nD) (j : Fin 31) : GSem nD τ sig := ((c : Thread nD τ), .dma (dsem q j))

/-- The copy semaphores are all different. -/
theorem dsem_inj {q q' : Fin 4} {j j' : Fin 31} (h : dsem q j = dsem q' j') : q = q' ∧ j = j' := by
  have := congrArg Fin.val h; simp only [dsem] at this
  exact ⟨Fin.ext (by omega), Fin.ext (by omega)⟩

/-- A device's cells, numbered: its barrier, and its 4 times 31 DMA cells. -/
abbrev csem : Option (Fin 4 × Fin 31) → SemLoc sig
  | none => .reg barS
  | some (q, j) => .dma (dsem q j)
/-- A device's cell of that number. -/
abbrev kcell (ck : Dev nD × Option (Fin 4 × Fin 31)) : GSem nD τ sig := ((ck.1 : Thread nD τ), csem ck.2)

/-! ## The schedule -/

/-- Device `c`'s slot `j`, holding anything. -/
def slotAny (c : Dev nD) (j : Fin 31) : sProp 𝕄 := iprop(∃ X, owns (c : Thread nD τ) (slotM j) fullShare X)
/-- Device `d`'s rows of device `c`'s output, holding anything. -/
def outAny (c d : Dev nD) : sProp 𝕄 := iprop(∃ X, owns (c : Thread nD τ) (rowsM oM d) fullShare X)

/-- The share of its own output rows a device has left after `k` all-gather sends. -/
def shareAt : ℕ → PosShare TreeShare
  | 0 => fullShare
  | k + 1 => (shareAt k).right

/-- What the `j`-th signal `c` receives hands it: the sender lets `c` write one slot and `c`'s rows of its output. -/
def barPay (c : Dev nD) (j : Fin 31) : sProp 𝕄 := iprop(slotAny (bwd c j) (rev j) ∗ outAny (bwd c j) c)

/-- What a wait on device `c`'s `j`-th DMA semaphore of array `q` hands it. -/
def dmaPay (q : Fin 4) (c : Dev nD) (j : Fin 31) : sProp 𝕄 :=
  if q = 0 then owns (c : Thread nD τ) (rowsM pM (fwd c j)) fullShare (rowsOf (part m c) (fwd c j))
  else if q = 1 then owns (c : Thread nD τ) (slotM j) fullShare (rowsOf (part m (bwd c j)) c)
  else if q = 2 then owns (c : Thread nD τ) (rowsM oM c) (shareAt j.val).left (gout m c)
  else owns (c : Thread nD τ) (rowsM oM (bwd c j)) fullShare (gout m (bwd c j))

instance slotAny_storable (c : Dev nD) (j : Fin 31) : BI.Storable (upEmb : UEmb _ 𝕄) (slotAny (F := F) c j) := by
  unfold slotAny; infer_instance
instance outAny_storable (c d : Dev nD) : BI.Storable (upEmb : UEmb _ 𝕄) (outAny (F := F) c d) := by
  unfold outAny; infer_instance
instance dmaPay_storable (q : Fin 4) (c : Dev nD) (j : Fin 31) : BI.Storable (upEmb : UEmb _ 𝕄) (dmaPay m q c j) := by
  unfold dmaPay; (repeat' split) <;> infer_instance

/-- The semaphore of array number and place `n`. -/
def qOf (n : Fin 127) : Fin 4 := ⟨((n.val - 3) / 31) % 4, Nat.mod_lt _ (by decide)⟩
/-- The place, of the number of a semaphore. -/
def jOf (n : Fin 127) : Fin 31 := ⟨(n.val - 3) % 31, Nat.mod_lt _ (by decide)⟩
/-- Array and place of a copy semaphore's number are what they were, -/
theorem qOf_dsem (q : Fin 4) (j : Fin 31) : qOf (dsem q j) = q := by apply Fin.ext; simp only [qOf, dsem]; omega
/-- the one and the other. -/
theorem jOf_dsem (q : Fin 4) (j : Fin 31) : jOf (dsem q j) = j := by apply Fin.ext; simp only [jOf, dsem]; omega

/-- The duties of a semaphore: the barrier's 31 signals, a copy semaphore's one copy. -/
def dutiesOf : SemLoc sig → Finset (Fin 31)
  | .reg _ => Finset.univ
  | .dma n => if 3 ≤ n.val then {0} else ∅
/-- What one duty adds to a semaphore. -/
def amountOf : SemLoc sig → ℕ
  | .reg _ => 1
  | .dma _ => N
/-- What one duty hands to the device that waits on the semaphore. -/
def payOf (c : Dev nD) (d : Fin 31) : SemLoc sig → sProp 𝕄
  | .reg _ => barPay c d
  | .dma n => dmaPay m (qOf n) c (jOf n)

/-- One round, round 0: a barrier cell has 31 duties of one unit each; a DMA cell one duty, a copy's credit. -/
def Rd : Rounds.Schedule (GSem nD τ sig) (Fin 31) 𝕄 where
  duties g r := if r = 0 ∧ g.1.2 = .tc then dutiesOf g.2 else ∅
  unitless _ := False
  amount g _ _ := amountOf g.2
  payload g _ d := payOf m g.1.1 d g.2
  amount_pos g _ _ _ := by
    cases g.2 with
    | reg s => exact Nat.one_pos
    | dma n => exact N_pos

instance Rd_payload_storable (g : GSem nD τ sig) (r : ℕ) (d : Fin 31) :
    BI.Storable (upEmb : UEmb _ 𝕄) ((Rd (F := F) m).payload g r d) := by
  show BI.Storable upEmb (payOf m g.1.1 d g.2)
  cases g.2 with
  | reg s => show BI.Storable upEmb (barPay g.1.1 d); unfold barPay; infer_instance
  | dma n => show BI.Storable upEmb (dmaPay m (qOf n) g.1.1 (jOf n)); infer_instance

section Sched
variable (c : Dev nD) (q : Fin 4) (j d : Fin 31)

/-- The barrier has all 31 duties, -/
theorem duties_bar : (Rd (F := F) m).duties (barCell c) 0 = Finset.univ := by dsimp only [Rd]; exact if_pos ⟨rfl, rfl⟩
/-- a copy semaphore has one, -/
theorem duties_dma : (Rd (F := F) m).duties (dcell q c j) 0 = {0} := by
  dsimp only [Rd]; rw [if_pos ⟨rfl, rfl⟩]; exact if_pos (by simp only [dsem]; omega)
/-- and no semaphore has any after the first round. -/
theorem duties_later (g : GSem nD τ sig) : ∀ r, 1 ≤ r → (Rd (F := F) m).duties g r = ∅ :=
  fun r hr => by dsimp only [Rd]; rw [if_neg fun h => by omega]
/-- A signal adds one, -/
theorem amount_bar : (Rd (F := F) m).amount (barCell c) 0 d = 1 := rfl
/-- a copy what 16 rows are worth. -/
theorem amount_dma : (Rd (F := F) m).amount (dcell q c j) 0 d = N := rfl
/-- So the barrier's round is worth 31, -/
theorem expect_bar : (Rd (F := F) m).expect (barCell c) 0 = 31 := by
  unfold Schedule.expect Schedule.amountOf
  rw [duties_bar, Finset.sum_congr rfl fun d _ => amount_bar m c d, Finset.sum_const, Finset.card_univ, Fintype.card_fin, smul_eq_mul]
/-- and a copy semaphore's one copy. -/
theorem expect_dma : (Rd (F := F) m).expect (dcell q c j) 0 = N := by
  unfold Schedule.expect Schedule.amountOf; rw [duties_dma, Finset.sum_singleton, amount_dma]
/-- What a signal hands over, read off the schedule, -/
theorem payload_bar : (Rd (F := F) m).payload (barCell c) 0 d = barPay c d := rfl
/-- and what a copy hands over. -/
theorem payload_dma : (Rd (F := F) m).payload (dcell q c j) 0 d = dmaPay m q c j := by
  show dmaPay m (qOf (dsem q j)) c (jOf (dsem q j)) = _
  rw [qOf_dsem, jOf_dsem]
/-- What a device's barrier wait hands it: all 31 signals' payloads. -/
theorem rest_bar : bigSep ((Rd (F := F) m).duties (barCell c) 0 \ ∅) (fun d => (Rd (F := F) m).payload (barCell c) 0 d)
    = bigSep Finset.univ fun d => barPay c d := by rw [Finset.sdiff_empty, duties_bar]; rfl
/-- What a DMA wait hands: the one payload. -/
theorem rest_dma : bigSep ((Rd (F := F) m).duties (dcell q c j) 0 \ ∅) (fun d => (Rd (F := F) m).payload (dcell q c j) 0 d) = dmaPay m q c j := by
  rw [Finset.sdiff_empty, duties_dma, bigSep_singleton, payload_dma]
end Sched

/-! ## What each device owes; the levels -/

/-- A count of what is owed to each semaphore. -/
abbrev Tal := CellTallies nD τ sig Unit

/-- What device `c` still owes after `b` signals, `r` reduce-scatter copies and `a` all-gather copies. -/
def owe (c : Dev nD) (b r a : ℕ) : Tal :=
  (∑ j ∈ rangeSet 31 b 31, (tallyAt (barCell (fwd c j)) () 1 : Tal))
    + (∑ j ∈ rangeSet 31 r 31, (tallyAt (dcell 1 (fwd c j) j) () N : Tal))
    + ∑ j ∈ rangeSet 31 a 31, (tallyAt (dcell 3 (fwd c j) j) () N : Tal)

/-- A sum from place `k` on is place `k` and the sum from the next place on. -/
theorem sum_range_head {k : ℕ} (hk : k < 31) (f : Fin 31 → Tal) :
    ∑ j ∈ rangeSet 31 k 31, f j = f ⟨k, hk⟩ + ∑ j ∈ rangeSet 31 (k + 1) 31, f j := by
  have : rangeSet 31 k 31 = insert ⟨k, hk⟩ (rangeSet 31 (k + 1) 31) := by
    ext j; simp only [mem_rangeSet, Finset.mem_insert, Fin.ext_iff]; omega
  rw [this, Finset.sum_insert]
  simp only [mem_rangeSet]; omega
/-- A sum from the end on is zero. -/
theorem sum_range_end (f : Fin 31 → Tal) : ∑ j ∈ rangeSet 31 31 31, f j = 0 := by
  rw [show rangeSet 31 31 31 = ∅ from by ext j; simp only [mem_rangeSet, Finset.notMem_empty, iff_false]; omega, Finset.sum_empty]

/-- Before the `k`-th signal a device owes that signal and what it owes after it; -/
theorem owe_bar (c : Dev nD) {k : ℕ} (hk : k < 31) (r a : ℕ) :
    owe c k r a = owe c (k + 1) r a + tallyAt (barCell (fwd c ⟨k, hk⟩)) () 1 := by
  unfold owe; rw [sum_range_head hk]; abel
/-- the same of the `k`-th copy of partial rows, -/
theorem owe_rs (c : Dev nD) {k : ℕ} (hk : k < 31) (b a : ℕ) :
    owe c b k a = owe c b (k + 1) a + tallyAt (dcell 1 (fwd c ⟨k, hk⟩) ⟨k, hk⟩) () N := by
  unfold owe; rw [sum_range_head hk]; abel
/-- and of the `k`-th copy of rows of the result. -/
theorem owe_ag (c : Dev nD) {k : ℕ} (hk : k < 31) (b r : ℕ) :
    owe c b r k = owe c b r (k + 1) + tallyAt (dcell 3 (fwd c ⟨k, hk⟩) ⟨k, hk⟩) () N := by
  unfold owe; rw [sum_range_head hk]; abel
/-- After all of them nothing is owed. -/
theorem owe_end (c : Dev nD) : owe c 31 31 31 = 0 := by
  unfold owe; simp only [sum_range_end, add_zero]

/-- Every semaphore of a TensorCore has one level, the other threads' have none. -/
def L (g : GSem nD τ sig) : Finset Unit := if g.1.2 = .tc then {()} else ∅
/-- The rank of a semaphore among the waits. -/
def lvOf : SemLoc sig → ℕ
  | .reg _ => 1
  | .dma n => if 3 ≤ n.val then (if qOf n = 1 then 2 else if qOf n = 3 then 3 else 0) else 0
/-- Barrier cells at 1, the reduce-scatter's receive cells at 2, the all-gather's at 3, everything else at 0. -/
def lv (g : GSem nD τ sig) (_ : Unit) : ℕ := lvOf g.2

/-- The barrier's rank, -/
theorem lv_bar (c : Dev nD) : lv (barCell c) () = 1 := rfl
/-- and the copy semaphores'. -/
theorem lv_dma (q : Fin 4) (c : Dev nD) (j : Fin 31) : lv (dcell q c j) () = if q = 1 then 2 else if q = 3 then 3 else 0 := by
  show lvOf (.dma (dsem q j)) = _
  dsimp only [lvOf]; rw [if_pos (by show 3 ≤ 3 + 31 * q.val + j.val; omega), qOf_dsem]

/-- No level on another kind of thread, -/
theorem L_of_ne (g : GSem nD τ sig) (h : g.1.2 ≠ .tc) : L g = ∅ := if_neg h
/-- one on a TensorCore. -/
theorem L_tc (c : Dev nD) (sm : SemLoc sig) : L ((c : Thread nD τ), sm) = {()} := if_pos rfl

/-- If a sum of debts counts a semaphore, one of the debts is to it. -/
theorem sum_tally_pos {S : Finset (Fin 31)} {gs : Fin 31 → GSem nD τ sig} {n : ℕ} {g : GSem nD τ sig} {u : Unit}
    (h : 0 < (∑ j ∈ S, (tallyAt (gs j) () n : Tal)) g u) : ∃ j ∈ S, g = gs j := by
  by_contra hn
  push Not at hn
  rw [Finset.sum_apply, Finsupp.finset_sum_apply, Finset.sum_eq_zero] at h
  · exact Nat.lt_irrefl 0 h
  · intro j hj; rw [tallyAt_apply, if_neg fun h' => hn j hj h'.1]

/-- What a device owes is owed to the barriers it has not signalled and the receive semaphores of the copies it has not sent. -/
theorem owe_pos {c : Dev nD} {b r a : ℕ} {g : GSem nD τ sig} {u : Unit} (h : 0 < owe c b r a g u) :
    (∃ j : Fin 31, b ≤ j.val ∧ g = barCell (fwd c j)) ∨ (∃ j : Fin 31, r ≤ j.val ∧ g = dcell 1 (fwd c j) j)
      ∨ ∃ j : Fin 31, a ≤ j.val ∧ g = dcell 3 (fwd c j) j := by
  unfold owe at h
  rw [Pi.add_apply, Finsupp.add_apply, Pi.add_apply, Finsupp.add_apply] at h
  by_cases h1 : 0 < (∑ j ∈ rangeSet 31 b 31, (tallyAt (barCell (fwd c j)) () 1 : Tal)) g u
  · obtain ⟨j, hj, e⟩ := sum_tally_pos h1; exact .inl ⟨j, ((mem_rangeSet _ _ _).mp hj).1, e⟩
  by_cases h2 : 0 < (∑ j ∈ rangeSet 31 r 31, (tallyAt (dcell 1 (fwd c j) j) () N : Tal)) g u
  · obtain ⟨j, hj, e⟩ := sum_tally_pos h2; exact .inr (.inl ⟨j, ((mem_rangeSet _ _ _).mp hj).1, e⟩)
  obtain ⟨j, hj, e⟩ := sum_tally_pos (S := rangeSet 31 a 31) (gs := fun j => dcell 3 (fwd c j) j) (n := N) (g := g) (u := u) (by omega)
  exact .inr (.inr ⟨j, ((mem_rangeSet _ _ _).mp hj).1, e⟩)

attribute [irreducible] owe

/-- A device may wait on a cell of a level below everything it still owes. -/
theorem mayWait_of (c : Dev nD) (sm : SemLoc sig) (b r a : ℕ)
    (hb : b < 31 → lvOf sm < 1) (hr : r < 31 → lvOf sm < 2) (ha : a < 31 → lvOf sm < 3) :
    (levAts L lv : sProp 𝕄) ⊢ MayWait (c : Thread nD τ) sm () (owe c b r a) :=
  MayOwe.of_cut (L := L) (lev := lv) (lvOf sm)
    (fun p hp => by rw [Finset.mem_singleton.mp hp, L_tc]; exact Finset.mem_singleton_self _)
    (fun g u hg => by rcases owe_pos hg with ⟨j, _, rfl⟩ | ⟨j, _, rfl⟩ | ⟨j, _, rfl⟩ <;> exact Finset.mem_singleton_self _)
    (fun p hp => by rw [Finset.mem_singleton.mp hp]; exact le_refl _)
    (fun g u hg => by
      rcases owe_pos hg with ⟨j, h, rfl⟩ | ⟨j, h, rfl⟩ | ⟨j, h, rfl⟩
      · exact hb (by omega)
      · rw [lv_dma]; exact hr (by omega)
      · rw [lv_dma]; exact ha (by omega))

end Cert.KernelIdealProof
-- ==== Proof.Steps.lean ====
/-
One lemma for each kind of step the kernel's text repeats: a signal, a copy of 16 rows to another device in either
phase, a wait on a DMA semaphore, a load of a received block. Each carries a state numbered by how many steps of
its kind are done, and moves it on by one.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet bigSep_rangeSet_head bigSep_rangeSet_last bigSep_rangeSet_empty rangeSet_univ)

variable {F : FTy → Type} [FloatOps F]

local notation "𝕄" => MT nD τ sig Unit (Elt F) ℕ UU ℕ

variable (m : (ℓ : Loc nD τ sig) → Buf (Elt F) ℓ) (K : Dev nD × Option (Fin 4 × Fin 31) → ℕ) (c : Dev nD)

/-- No loop needs a measure. -/
abbrev 𝒱₀ : Variants := Variants.none

/-- A program of device `c` runs to the postcondition `Q`. -/
abbrev Wp {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, that every cell is at round 0 at least, and the levels. -/
def ctx : sProp 𝕄 :=
  iprop(bigSep Finset.univ (fun ck => cellInv ER (Rd m) (K ck) (kcell ck))
    ∗ bigSep Finset.univ (fun ck : Dev nD × Option (Fin 4 × Fin 31) => reached ER (kcell ck) 0) ∗ (levAts L lv : sProp 𝕄))

instance ctx_persistent : BI.Persistent (ctx m K) := by
  unfold ctx
  have h1 : BI.Persistent (bigSep Finset.univ (fun ck => cellInv ER (Rd m) (K ck) (kcell ck)) : sProp 𝕄) := BI.bigSep_persistent _ _
  have h2 : BI.Persistent (bigSep Finset.univ (fun ck : Dev nD × Option (Fin 4 × Fin 31) => reached ER (kcell ck) 0) : sProp 𝕄) := BI.bigSep_persistent _ _
  infer_instance

/-- It has each cell's invariant, -/
theorem ctx_inv (ck : Dev nD × Option (Fin 4 × Fin 31)) : ctx m K ⊢ cellInv ER (Rd m) (K ck) (kcell ck) := by
  unfold ctx; iintro ⟨H, -⟩; iapply (show _ ⊢ cellInv ER (Rd m) (K ck) (kcell ck) from bigSep_elim (Φ := fun ck => cellInv ER (Rd m) (K ck) (kcell ck)) (Finset.mem_univ ck)); iexact H
/-- that each cell is at its first round, -/
theorem ctx_reached (ck : Dev nD × Option (Fin 4 × Fin 31)) : ctx m K ⊢ reached ER (kcell ck) 0 := by
  unfold ctx; iintro ⟨-, H, -⟩
  iapply (show _ ⊢ (reached ER (kcell ck) 0 : sProp 𝕄) from
    bigSep_elim (Φ := fun ck : Dev nD × Option (Fin 4 × Fin 31) => reached ER (kcell ck) 0) (Finset.mem_univ ck)); iexact H
/-- and the levels, by which a wait is allowed. -/
theorem ctx_may (c : Dev nD) (sm : SemLoc sig) (O : Tal) (h : (levAts L lv : sProp 𝕄) ⊢ MayWait (c : Thread nD τ) sm () O) :
    ctx m K ⊢ MayWait (c : Thread nD τ) sm () O := by
  unfold ctx; iintro ⟨-, -, H⟩; iapply h; iexact H

attribute [irreducible] ctx

/-- What is still owed, whatever has been waited for. -/
def owing (O : Tal) : sProp 𝕄 := iprop(∃ W, owes (c : Thread nD τ) O W)

/-- The places from `k` on, -/
def rest (k : ℕ) (Φ : Fin 31 → sProp 𝕄) : sProp 𝕄 := bigSep (rangeSet 31 k 31) Φ
/-- and those before `k`. -/
def done (k : ℕ) (Φ : Fin 31 → sProp 𝕄) : sProp 𝕄 := bigSep (rangeSet 31 0 k) Φ

/-- The places from `k` on are `k` and those from the next on; -/
theorem rest_head {k : ℕ} (hk : k < 31) (Φ : Fin 31 → sProp 𝕄) : rest k Φ = iprop(Φ ⟨k, hk⟩ ∗ rest (k + 1) Φ) :=
  bigSep_rangeSet_head hk hk
/-- those before the next are `k` and those before `k`. -/
theorem done_last {k : ℕ} (hk : k < 31) (Φ : Fin 31 → sProp 𝕄) : done (k + 1) Φ = iprop(Φ ⟨k, hk⟩ ∗ done k Φ) :=
  bigSep_rangeSet_last (Nat.succ_pos k) hk
/-- From the start on are all places, -/
theorem rest_all (Φ : Fin 31 → sProp 𝕄) : rest 0 Φ = bigSep Finset.univ Φ := by unfold rest; rw [rangeSet_univ]
/-- before the end are all places, -/
theorem done_all (Φ : Fin 31 → sProp 𝕄) : done 31 Φ = bigSep Finset.univ Φ := by unfold done; rw [rangeSet_univ]
/-- from the end on is none, -/
theorem rest_none (Φ : Fin 31 → sProp 𝕄) : rest 31 Φ = iprop(emp) := bigSep_rangeSet_empty (le_refl _)
/-- before the start is none. -/
theorem done_none (Φ : Fin 31 → sProp 𝕄) : done 0 Φ = iprop(emp) := bigSep_rangeSet_empty (le_refl _)

/-! ## The signals -/

/-- `k` signals sent: for each later one its duty, and the slot and rows its receiver may write. -/
def sigSt (k : ℕ) : sProp 𝕄 :=
  iprop(owing c (owe c k 0 0)
    ∗ rest k fun j => iprop(dutyTok ER (barCell (fwd c j)) 0 j ∗ slotAny c (rev j) ∗ outAny c (fwd c j)))

/-- The `k`-th signal: the device hands over a slot and the receiver's rows of its output. -/
theorem step_signal {k : ℕ} (hk : k < 31) {n : Dev nD} (hn : n = fwd c ⟨k, hk⟩) {s : Sem sig} (hs : s = barS) {a : ℕ} (ha : 1 = a)
    {α : Type} {Q : α → sProp 𝕄} {cont : PUnit → Prog (TpuEff nD τ sig (Elt F) Λ₀ .tc) α} {R : sProp 𝕄}
    (H : iprop(ctx m K ∗ sigSt c (k + 1) ∗ R) ⊢ Wp c (cont ⟨⟩) Q) :
    iprop(ctx m K ∗ sigSt c k ∗ R) ⊢ Wp c (.op (.semSignal (n : Thread nD τ) s a) cont) Q := by
  subst hn; subst hs
  unfold sigSt owing at H ⊢
  rw [rest_head hk]
  iintro ⟨#Hc, ⟨⟨%W, HO⟩, ⟨Ht, Hs, Ho⟩, Hr⟩, HR⟩
  iapply (Rounds.wp_signal 𝒱₀ ER (Rd m) (c : Thread nD τ) none (dst := (fwd c ⟨k, hk⟩ : Thread nD τ)) (κ := K (fwd c ⟨k, hk⟩, none))
      (d := ⟨k, hk⟩) (by rw [duties_bar]; exact Finset.mem_univ _) ((amount_bar m (fwd c ⟨k, hk⟩) _).trans ha) () (O₀ := owe c k 0 0) (owe c (k + 1) 0 0)
      (by rw [← ha]; exact owe_bar c hk 0 0)) $$ [HO Ht Hs Ho]
  · isplitr; · iapply (ctx_inv m K (fwd c ⟨k, hk⟩, none)); iexact Hc
    isplitl [HO]; · iexact HO
    isplitl [Ht]; · iexact Ht
    isplitl [Hs Ho]
    · rw [payload_bar]; unfold barPay; rw [bwd_fwd]
      isplitl [Hs]; · iexact Hs
      iexact Ho
    · iapply (ctx_reached m K (fwd c ⟨k, hk⟩, none)); iexact Hc
  iintro HO
  iapply H
  isplitr; · iexact Hc
  isplitl [HO Hr]
  · isplitl [HO]; · iexists W; iexact HO
    iexact Hr
  iexact HR

/-- The barrier wait: the device may now write slot `j` and its own rows of the output on `fwd c j`, for every `j`. -/
theorem step_barrier {s : Sem sig} (hs : s = barS) {a : ℕ} (ha : a = 31)
    {α : Type} {Q : α → sProp 𝕄} {cont : PUnit → Prog (TpuEff nD τ sig (Elt F) Λ₀ .tc) α} {R : sProp 𝕄}
    (H : iprop(ctx m K ∗ (owing c (owe c 31 0 0) ∗ atPos ER (barCell c) 1 ∅ 0
        ∗ bigSep Finset.univ fun j => iprop(slotAny (fwd c j) j ∗ outAny (fwd c j) c)) ∗ R) ⊢ Wp c (cont ⟨⟩) Q) :
    iprop(ctx m K ∗ (owing c (owe c 31 0 0) ∗ atPos ER (barCell c) 0 ∅ 0 ∗ cred (tallyAt (barCell c) () 31)) ∗ R)
      ⊢ Wp c (.op (.semWait s a) cont) Q := by
  subst hs; subst ha
  have hm : (levAts L lv : sProp 𝕄) ⊢ MayWait (c : Thread nD τ) (.reg barS) () (owe c 31 0 0) :=
    mayWait_of c (.reg barS) 31 0 0 (fun h => absurd h (lt_irrefl _)) (fun _ => Nat.lt_succ_self 1) (fun _ => Nat.lt_succ_of_lt (Nat.lt_succ_self 1))
  unfold owing at H ⊢
  iintro ⟨#Hc, ⟨⟨%W, HO⟩, Hat, Hcr⟩, HR⟩
  iapply (Rounds.wp_wait_rest_token 𝒱₀ ER (Rd m) (c : Thread nD τ) none (κ := K (c, none))
      (wpE_semWait_eq 𝒱₀ (c : Thread nD τ) none Set.univ) (Set.mem_univ _) () (O := owe c 31 0 0) (W := W) (R := 0) (m := 0) (T := ∅)
      (by rw [Nat.zero_add, expect_bar])) $$ [Hcr HO Hat]
  · isplitr; · iapply (ctx_inv m K (c, none)); iexact Hc
    isplitl [Hcr]; · iexact Hcr
    isplitl [HO]; · iexact HO
    isplitr
    · iapply (ctx_may m K c _ _ hm); iexact Hc
    iexact Hat
  iintro ⟨HO, Hat, -, Hpay⟩
  ihave Hp := (Entails.of_eq (rest_bar m c)) $$ Hpay
  iapply H
  isplitr; · iexact Hc
  isplitr [HR]
  · isplitl [HO]; · iexists _; iexact HO
    isplitl [Hat]; · iexact Hat
    iapply (show bigSep Finset.univ (fun d => barPay (F := F) c d) ⊢ bigSep Finset.univ (fun j => iprop(slotAny (F := F) (fwd c j) j ∗ outAny (fwd c j) c)) from by
      rw [bigSep_univ_equiv revE]
      refine bigSep_mono fun j _ => ?_
      show barPay c (rev j) ⊢ _
      unfold barPay; rw [bwd_rev, rev_rev])
    iexact Hp
  iexact HR

/-! ## A copy of 16 rows -/

/-- A copy to device `n`: the source's share is owed back through the send cell, the rows written go to the receive cell. -/
theorem step_send {n : Dev nD} (q q' : Fin 4) (j : Fin 31) (hn : n = fwd c j)
    {src dst : Memref sig .tc .vmem S16x512 .f32} (hN : dst.view.dmaCredit = N)
    {sS sR : DmaSem sig} (hsS : sS = dsem q j) (hsR : sR = dsem q' j)
    (sh : PosShare TreeShare) (X : S16x512.Idx → Elt F .f32)
    (hp₁ : (owns (c : Thread nD τ) src sh X : sProp 𝕄) ⊢ dmaPay m q c j)
    (hp₂ : (owns (fwd c j : Thread nD τ) dst fullShare X : sProp 𝕄) ⊢ dmaPay m q' (fwd c j) j)
    (O₀ O : Tal) (hO : O₀ = O + tallyAt (dcell q' (fwd c j) j) () N)
    {hsc : (dst : Memref sig (Dev.tc n : Thread nD τ).2.kind .vmem S16x512 .f32).view.ref.isScScratch = false}
    {hsrc : src.view.WordExact} {hdst : dst.view.WordExact}
    {hsem : DmaTarget.Typed .vmem (.dma sR) (.remote (Dev.tc n : Thread nD τ) (dst : Memref sig .tc .vmem S16x512 .f32) (.dma sS) hsc)}
    {α : Type} {Q : α → sProp 𝕄} {cont : PUnit → Prog (TpuEff nD τ sig (Elt F) Λ₀ .tc) α} {R : sProp 𝕄}
    (H : iprop(ctx m K ∗ (owing c O ∗ cred (tallyAt (dcell q c j) () N)) ∗ R) ⊢ Wp c (cont ⟨⟩) Q) :
    iprop(ctx m K ∗ (owing c O₀ ∗ dutyTok ER (dcell q c j) 0 0 ∗ dutyTok ER (dcell q' (fwd c j) j) 0 0
        ∗ owns (c : Thread nD τ) src sh X ∗ (∃ Y, owns (fwd c j : Thread nD τ) dst fullShare Y)) ∗ R)
      ⊢ Wp c (.op (.enqueueDma src (.remote (Dev.tc n : Thread nD τ) dst (.dma sS) hsc) (.dma sR) hsrc hdst hsem) cont) Q := by
  subst hn; subst hsS; subst hsR; subst hO
  unfold owing at H ⊢
  iintro ⟨#Hc, ⟨⟨%W, HO⟩, HtS, HtR, Hsrc, ⟨%Y, Hdst⟩⟩, HR⟩
  ihave Hs := (show owns (c : Thread nD τ) src sh X ⊢ iprop(∃ f, ⌜src.view.read (Elt F) f = X⌝ ∗ (src.view.loc (c : Thread nD τ) ↦[src.view.set]{sh} f)) from .rfl) $$ Hsrc
  icases Hs with ⟨%fs, %hfs, Hs⟩
  ihave Hd := (show owns (fwd c j : Thread nD τ) dst fullShare Y ⊢ iprop(∃ f, ⌜dst.view.read (Elt F) f = Y⌝ ∗ (dst.view.loc (fwd c j : Thread nD τ) ↦[dst.view.set]{fullShare} f)) from .rfl) $$ Hdst
  icases Hd with ⟨%fd, %hfd, Hd⟩
  iapply (Rounds.wp_send_pointsTo 𝒱₀ ER (Rd m) (c : Thread nD τ) none (c' := (fwd c j : Thread nD τ)) (src := src) (dst := dst) (sS := .dma (dsem q j)) (sem := .dma (dsem q' j))
    (κ₁ := K (c, some (q, j))) (κ₂ := K (fwd c j, some (q', j)))
    (r₁ := 0) (r₂ := 0) (d₁ := 0) (d₂ := 0) (q := sh) (fs := fs) (fd := fd)
    (by rw [duties_dma]; exact Finset.mem_singleton_self _) (by rw [duties_dma]; exact Finset.mem_singleton_self _)
    () () N hN (amount_dma m c q j 0) (amount_dma m (fwd c j) q' j 0) O rfl (W := W)
    (by
      rw [payload_dma]
      refine BI.Entails.trans ?_ hp₁
      rw [← hfs]; exact owns_intro (c : Thread nD τ) src sh fs)
    (by
      rw [payload_dma]
      refine BI.Entails.trans (owns_intro (fwd c j : Thread nD τ) dst fullShare _) ?_
      rw [View.read_write_univ, hfs]; exact hp₂)) $$ [HO HtS HtR Hs Hd]
  · isplitr; · iapply (ctx_inv m K (c, some (q, j))); iexact Hc
    isplitr; · iapply (ctx_inv m K (fwd c j, some (q', j))); iexact Hc
    isplitl [Hs]; · iexact Hs
    isplitl [Hd]; · iexact Hd
    isplitl [HO]; · iexact HO
    isplitl [HtS]; · iexact HtS
    isplitr; · iapply (ctx_reached m K (c, some (q, j))); iexact Hc
    isplitl [HtR]; · iexact HtR
    iapply (ctx_reached m K (fwd c j, some (q', j))); iexact Hc
  iintro ⟨Hcr, HO⟩
  iapply H
  isplitr; · iexact Hc
  isplitr [HR]
  · isplitl [HO]; · iexists W; iexact HO
    iexact Hcr
  iexact HR

/-- `k` reduce-scatter copies sent. -/
def rsSt (k : ℕ) : sProp 𝕄 :=
  iprop(owing c (owe c 31 k 0)
    ∗ (rest k fun j => iprop(dutyTok ER (dcell 0 c j) 0 0 ∗ dutyTok ER (dcell 1 (fwd c j) j) 0 0
        ∗ owns (c : Thread nD τ) (rowsM pM (fwd c j)) fullShare (rowsOf (part m c) (fwd c j)) ∗ slotAny (fwd c j) j))
    ∗ done k fun j => cred (tallyAt (dcell 0 c j) () N))

/-- The `k`-th copy of partial rows to the device that owns them. -/
theorem step_rs {k : ℕ} (hk : k < 31) {n : Dev nD} (hn : n = fwd c ⟨k, hk⟩)
    {off : Fin 2 → ℕ} (hoff : off = ![16 * (fwd c ⟨k, hk⟩).val, 0]) {hinb : ∀ a, off a + S16x512.size a ≤ S512x512.size a}
    {hsl : ∀ a, (Rect.unit (s := S512x512) off S16x512.size hinb).stride a = 1}
    {dst : Memref sig .tc .vmem S16x512 .f32} (hdstE : dst = slotM ⟨k, hk⟩)
    {sS sR : DmaSem sig} (hsS : sS = dsem 0 ⟨k, hk⟩) (hsR : sR = dsem 1 ⟨k, hk⟩)
    {hsc : (dst : Memref sig (Dev.tc n : Thread nD τ).2.kind .vmem S16x512 .f32).view.ref.isScScratch = false}
    {hsrc : ((pM : Memref sig .tc .vmem S512x512 .f32).slice (Rect.unit (s := S512x512) off S16x512.size hinb) hsl).view.WordExact}
    {hdst : dst.view.WordExact}
    {hsem : DmaTarget.Typed .vmem (.dma sR) (.remote (Dev.tc n : Thread nD τ) (dst : Memref sig .tc .vmem S16x512 .f32) (.dma sS) hsc)}
    {α : Type} {Q : α → sProp 𝕄} {cont : PUnit → Prog (TpuEff nD τ sig (Elt F) Λ₀ .tc) α} {R : sProp 𝕄}
    (H : iprop(ctx m K ∗ rsSt m c (k + 1) ∗ R) ⊢ Wp c (cont ⟨⟩) Q) :
    iprop(ctx m K ∗ rsSt m c k ∗ R)
      ⊢ Wp c (.op (.enqueueDma ((pM : Memref sig .tc .vmem S512x512 .f32).slice (Rect.unit (s := S512x512) off S16x512.size hinb) hsl)
          (.remote (Dev.tc n : Thread nD τ) dst (.dma sS) hsc) (.dma sR) hsrc hdst hsem) cont) Q := by
  subst hoff; subst hdstE
  unfold rsSt at H ⊢
  rw [rest_head hk]
  rw [done_last hk] at H
  iintro ⟨#Hc, ⟨HO, ⟨⟨HtS, HtR, Hsrc, Hslot⟩, Hr⟩, Hd⟩, HR⟩
  iapply (step_send m K c 0 1 ⟨k, hk⟩ hn (dst := slotM ⟨k, hk⟩) (credit_slot _) hsS hsR fullShare (rowsOf (part m c) (fwd c ⟨k, hk⟩))
    (by unfold dmaPay; rw [if_pos rfl])
    (by unfold dmaPay; rw [if_neg (by decide), if_pos rfl, bwd_fwd])
    (owe c 31 k 0) (owe c 31 (k + 1) 0) (owe_rs c hk 31 0) (R := iprop(rest (k + 1) _ ∗ done k _ ∗ R))
    (by
      refine BIBase.Entails.trans ?_ H
      iintro ⟨#Hc, ⟨HO, Hcr⟩, Hr, Hd, HR⟩
      isplitr; · iexact Hc
      isplitr [HR]
      · isplitl [HO]; · iexact HO
        isplitl [Hr]; · iexact Hr
        isplitl [Hcr]; · iexact Hcr
        iexact Hd
      iexact HR))
  isplitr; · iexact Hc
  isplitl [HO HtS HtR Hsrc Hslot]
  · isplitl [HO]; · iexact HO
    isplitl [HtS]; · iexact HtS
    isplitl [HtR]; · iexact HtR
    isplitl [Hsrc]; · iexact Hsrc
    unfold slotAny; iexact Hslot
  isplitl [Hr]; · iexact Hr
  isplitl [Hd]; · iexact Hd
  iexact HR

/-- `k` all-gather copies sent; the device's own share of its rows shrinks with each. -/
def agSt (k : ℕ) : sProp 𝕄 :=
  iprop((owing c (owe c 31 31 k) ∗ owns (c : Thread nD τ) (rowsM oM c) (shareAt k) (gout m c))
    ∗ (rest k fun j => iprop(dutyTok ER (dcell 2 c j) 0 0 ∗ dutyTok ER (dcell 3 (fwd c j) j) 0 0 ∗ outAny (fwd c j) c))
    ∗ done k fun j => cred (tallyAt (dcell 2 c j) () N))

/-- The `k`-th copy of the device's rows of the result. -/
theorem step_ag {k : ℕ} (hk : k < 31) {n : Dev nD} (hn : n = fwd c ⟨k, hk⟩)
    {off : Fin 2 → ℕ} (hoff : off = ![16 * c.val, 0]) {hinb : ∀ a, off a + S16x512.size a ≤ S512x512.size a}
    {hsl hsl' : ∀ a, (Rect.unit (s := S512x512) off S16x512.size hinb).stride a = 1}
    {sS sR : DmaSem sig} (hsS : sS = dsem 2 ⟨k, hk⟩) (hsR : sR = dsem 3 ⟨k, hk⟩)
    {hsc : (((oM : Memref sig .tc .vmem S512x512 .f32).slice (Rect.unit (s := S512x512) off S16x512.size hinb) hsl') : Memref sig (Dev.tc n : Thread nD τ).2.kind .vmem S16x512 .f32).view.ref.isScScratch = false}
    {hsrc : ((oM : Memref sig .tc .vmem S512x512 .f32).slice (Rect.unit (s := S512x512) off S16x512.size hinb) hsl).view.WordExact}
    {hdst : ((oM : Memref sig .tc .vmem S512x512 .f32).slice (Rect.unit (s := S512x512) off S16x512.size hinb) hsl').view.WordExact}
    {hsem : DmaTarget.Typed .vmem (.dma sR) (.remote (Dev.tc n : Thread nD τ) ((oM : Memref sig .tc .vmem S512x512 .f32).slice (Rect.unit (s := S512x512) off S16x512.size hinb) hsl') (.dma sS) hsc)}
    {α : Type} {Q : α → sProp 𝕄} {cont : PUnit → Prog (TpuEff nD τ sig (Elt F) Λ₀ .tc) α} {R : sProp 𝕄}
    (H : iprop(ctx m K ∗ agSt m c (k + 1) ∗ R) ⊢ Wp c (cont ⟨⟩) Q) :
    iprop(ctx m K ∗ agSt m c k ∗ R)
      ⊢ Wp c (.op (.enqueueDma ((oM : Memref sig .tc .vmem S512x512 .f32).slice (Rect.unit (s := S512x512) off S16x512.size hinb) hsl)
          (.remote (Dev.tc n : Thread nD τ) ((oM : Memref sig .tc .vmem S512x512 .f32).slice (Rect.unit (s := S512x512) off S16x512.size hinb) hsl') (.dma sS) hsc)
          (.dma sR) hsrc hdst hsem) cont) Q := by
  subst hoff
  unfold agSt at H ⊢
  rw [rest_head hk]
  rw [done_last hk] at H
  iintro ⟨#Hc, ⟨⟨HO, Hown⟩, ⟨⟨HtS, HtR, Hout⟩, Hr⟩, Hd⟩, HR⟩
  ihave Hh := (show owns (c : Thread nD τ) (rowsM oM c) (shareAt k) (gout m c) ⊢ (iprop(owns (c : Thread nD τ) (rowsM oM c) (shareAt k).left (gout m c) ∗ owns (c : Thread nD τ) (rowsM oM c) (shareAt k).right (gout m c)) : sProp 𝕄)
    from (owns_halves (c : Thread nD τ) (rowsM oM c) (shareAt k) (gout m c)).1) $$ Hown
  icases Hh with ⟨Hl, Hrt⟩
  iapply (step_send m K c 2 3 ⟨k, hk⟩ hn (src := rowsM oM c) (dst := rowsM oM c) (credit_out _ _) hsS hsR (shareAt k).left (gout m c)
    (by unfold dmaPay; rw [if_neg (by decide), if_neg (by decide), if_pos rfl])
    (by unfold dmaPay; rw [if_neg (by decide), if_neg (by decide), if_neg (by decide), bwd_fwd])
    (owe c 31 31 k) (owe c 31 31 (k + 1)) (owe_ag c hk 31 31)
    (R := iprop(owns (c : Thread nD τ) (rowsM oM c) (shareAt (k + 1)) (gout m c) ∗ rest (k + 1) _ ∗ done k _ ∗ R))
    (by
      refine BIBase.Entails.trans ?_ H
      iintro ⟨#Hc, ⟨HO, Hcr⟩, Hown, Hr, Hd, HR⟩
      isplitr; · iexact Hc
      isplitr [HR]
      · isplitl [HO Hown]
        · isplitl [HO]; · iexact HO
          iexact Hown
        isplitl [Hr]; · iexact Hr
        isplitl [Hcr]; · iexact Hcr
        iexact Hd
      iexact HR))
  isplitr; · iexact Hc
  isplitl [HO HtS HtR Hl Hout]
  · isplitl [HO]; · iexact HO
    isplitl [HtS]; · iexact HtS
    isplitl [HtR]; · iexact HtR
    isplitl [Hl]; · iexact Hl
    unfold outAny; iexact Hout
  isplitl [Hrt]; · iexact Hrt
  isplitl [Hr]; · iexact Hr
  isplitl [Hd]; · iexact Hd
  iexact HR

/-! ## The waits on the DMA semaphores -/

/-- `k` waits on the semaphores of array `q` done, owing `O`. -/
def waitSt (q : Fin 4) (O : Tal) (k : ℕ) : sProp 𝕄 :=
  iprop(owing c O ∗ (rest k fun j => iprop(cred (tallyAt (dcell q c j) () N) ∗ atPos ER (dcell q c j) 0 ∅ 0))
    ∗ done k fun j => iprop(dmaPay m q c j ∗ atPos ER (dcell q c j) 1 ∅ 0))

/-- The next wait on an array of copy semaphores: the device takes what the copy hands over. -/
theorem step_wait (q : Fin 4) (r a : ℕ) (hr : r < 31 → lvOf (.dma (dsem q 0)) < 2) (ha : a < 31 → lvOf (.dma (dsem q 0)) < 3)
    {k : ℕ} (hk : k < 31) {s : DmaSem sig} (hs : s = dsem q ⟨k, hk⟩)
    {src dst : Memref sig .tc .vmem S16x512 .f32} (hN : dst.view.dmaCredit = N) {hsrc : src.view.WordExact} {hdst : dst.view.WordExact}
    {α : Type} {Q : α → sProp 𝕄} {cont : PUnit → Prog (TpuEff nD τ sig (Elt F) Λ₀ .tc) α} {R : sProp 𝕄}
    (H : iprop(ctx m K ∗ waitSt m c q (owe c 31 r a) (k + 1) ∗ R) ⊢ Wp c (cont ⟨⟩) Q) :
    iprop(ctx m K ∗ waitSt m c q (owe c 31 r a) k ∗ R) ⊢ Wp c (.op (.waitDma2 s src dst hsrc hdst) cont) Q := by
  subst hs
  have hlev : lvOf (.dma (dsem q ⟨k, hk⟩)) = lvOf (.dma (dsem q 0)) := (lv_dma q c ⟨k, hk⟩).trans (lv_dma q c 0).symm
  have hm : (levAts L lv : sProp 𝕄) ⊢ MayWait (c : Thread nD τ) (.dma (dsem q ⟨k, hk⟩)) () (owe c 31 r a) :=
    mayWait_of c (.dma (dsem q ⟨k, hk⟩)) 31 r a (fun h => absurd h (lt_irrefl _)) (by rw [hlev]; exact hr) (by rw [hlev]; exact ha)
  unfold waitSt owing at H ⊢
  rw [rest_head hk]
  rw [done_last hk] at H
  iintro ⟨#Hc, ⟨⟨%W, HO⟩, ⟨⟨Hcr, Hat⟩, Hr⟩, Hd⟩, HR⟩
  iapply (Rounds.wp_wait_rest_token 𝒱₀ ER (Rd m) (c : Thread nD τ) none (κ := K (c, some (q, ⟨k, hk⟩)))
      (wpE_waitDma2_eq 𝒱₀ (c : Thread nD τ) none Set.univ) (Set.mem_univ _) () (O := owe c 31 r a) (W := W) (R := 0) (m := 0) (T := ∅)
      (by rw [Nat.zero_add, expect_dma]; exact hN)) $$ [Hcr HO Hat]
  · isplitr; · iapply (ctx_inv m K (c, some (q, ⟨k, hk⟩))); iexact Hc
    isplitl [Hcr]; · rw [hN]; iexact Hcr
    isplitl [HO]; · iexact HO
    isplitr
    · iapply (ctx_may m K c _ _ hm); iexact Hc
    iexact Hat
  iintro ⟨HO, Hat, -, Hpay⟩
  ihave Hp := (Entails.of_eq (rest_dma m c q ⟨k, hk⟩)) $$ Hpay
  iapply H
  isplitr; · iexact Hc
  isplitr [HR]
  · isplitl [HO]; · iexists _; iexact HO
    isplitl [Hr]; · iexact Hr
    isplitl [Hp Hat]
    · isplitl [Hp]; · iexact Hp
      iexact Hat
    iexact Hd
  iexact HR

/-! ## Loads -/

/-- A load from a memref's part owned at `X` continues at `X`. -/
theorem wp_load_part {sp : CoreSpace} {sh : Shape} {e : EltTy} {M : Memref sig .tc sp sh e} (r : Rect sh) (hr : ∀ a, r.stride a = 1)
    {hl : M.view.LoadsAt r.toLoadRect} {sh' : PosShare TreeShare} {X : r.shape.Idx → Elt F e}
    {α : Type} {Q : α → sProp 𝕄} {cont : (r.shape.Idx → Elt F e) → Prog (TpuEff nD τ sig (Elt F) Λ₀ .tc) α} :
    (owns (c : Thread nD τ) (M.slice r hr) sh' X : sProp 𝕄)
      ⊢ iprop((owns (c : Thread nD τ) (M.slice r hr) sh' X -∗ Wp c (cont X) Q) -∗ Wp c (.op (.load M r.toLoadRect hl) cont) Q) := by
  unfold owns
  iintro ⟨%f, %hf, H⟩ Hk
  subst hf
  iapply (wp_load_rect 𝒱₀ (c : Thread nD τ) none Set.univ (m := M) (r := r) (S := (M.access r).set) (le_refl _)) $$ H
  iintro H
  iapply Hk
  iexists f
  isplitr; · ipureintro; rfl
  iexact H

/-- Owning a slot as 16 rows is owning it as the one slab the loads read. -/
theorem slot_owns (d : Dev nD) (j : Fin 31) (sh : PosShare TreeShare) (X : S16x512.Idx → Elt F .f32) :
    (owns (d : Thread nD τ) (slotM j) sh X : sProp 𝕄)
      = owns (d : Thread nD τ) ((rM : Memref sig .tc .vmem S31x16x512 .f32).slice (slotRect j) (fun _ => rfl)) sh
          (fun i => X ((Shape.reshapeEquiv squeezes_S1x16x512_S16x512.numel_eq).symm i)) := by
  have hset : (slotM j).view.set = ((rM : Memref sig .tc .vmem S31x16x512 .f32).slice (slotRect j) (fun _ => rfl)).view.set := View.set_reshape _ _
  have h1 : ∀ f, ((slotM j).view.read (Elt F) f = X) ↔
      (((rM : Memref sig .tc .vmem S31x16x512 .f32).slice (slotRect j) (fun _ => rfl)).view.read (Elt F) f
        = fun i => X ((Shape.reshapeEquiv squeezes_S1x16x512_S16x512.numel_eq).symm i)) := by
    intro f
    constructor
    · intro h; subst h; funext i
      show _ = View.read (Elt F) ((rM : Memref sig .tc .vmem S31x16x512 .f32).slice (slotRect j) (fun _ => rfl)).view f (Shape.reshapeEquiv squeezes_S1x16x512_S16x512.numel_eq ((Shape.reshapeEquiv squeezes_S1x16x512_S16x512.numel_eq).symm i))
      rw [Equiv.apply_symm_apply]
    · intro h; funext x
      have := congrFun h (Shape.reshapeEquiv squeezes_S1x16x512_S16x512.numel_eq x)
      rw [Equiv.symm_apply_apply] at this
      exact this
  have h₁ : (owns (d : Thread nD τ) (slotM j) sh X : sProp 𝕄) ⊢ owns (d : Thread nD τ) ((rM : Memref sig .tc .vmem S31x16x512 .f32).slice (slotRect j) (fun _ => rfl)) sh
          (fun i => X ((Shape.reshapeEquiv squeezes_S1x16x512_S16x512.numel_eq).symm i)) := by
    unfold owns
    iintro ⟨%f, %hf, H⟩
    iexists f
    isplitr; · ipureintro; exact (h1 f).mp hf
    rw [← hset]; iexact H
  have h₂ : owns (d : Thread nD τ) ((rM : Memref sig .tc .vmem S31x16x512 .f32).slice (slotRect j) (fun _ => rfl)) sh
          (fun i => X ((Shape.reshapeEquiv squeezes_S1x16x512_S16x512.numel_eq).symm i)) ⊢ (owns (d : Thread nD τ) (slotM j) sh X : sProp 𝕄) := by
    unfold owns
    iintro ⟨%f, %hf, H⟩
    iexists f
    isplitr; · ipureintro; exact (h1 f).mpr hf
    rw [hset]; iexact H
  exact BI.equiv_iff.mp ⟨h₁, h₂⟩

/-- The load of the slot last waited for. -/
theorem step_slot {O : Tal} {k : ℕ} (hk : k < 31)
    {off : Fin 3 → ℕ} (hoff : off = ![k, 0, 0]) {hinb : ∀ a, off a + S1x16x512.size a ≤ S31x16x512.size a}
    {hl : (rM : Memref sig .tc .vmem S31x16x512 .f32).view.LoadsAt (Rect.unit (s := S31x16x512) off S1x16x512.size hinb).toLoadRect}
    {α : Type} {Q : α → sProp 𝕄} {cont : (S1x16x512.Idx → Elt F .f32) → Prog (TpuEff nD τ sig (Elt F) Λ₀ .tc) α} {R : sProp 𝕄}
    (H : iprop(ctx m K ∗ waitSt m c 1 O (k + 1) ∗ R) ⊢ Wp c (cont (slotV m c ⟨k, hk⟩)) Q) :
    iprop(ctx m K ∗ waitSt m c 1 O (k + 1) ∗ R)
      ⊢ Wp c (.op (.load (rM : Memref sig .tc .vmem S31x16x512 .f32) (Rect.unit (s := S31x16x512) off S1x16x512.size hinb).toLoadRect hl) cont) Q := by
  subst hoff
  unfold waitSt at H ⊢
  rw [done_last hk] at H ⊢
  have hpay : dmaPay m 1 c ⟨k, hk⟩ = owns (c : Thread nD τ) ((rM : Memref sig .tc .vmem S31x16x512 .f32).slice (slotRect ⟨k, hk⟩) (fun _ => rfl)) fullShare
      (slotV m c ⟨k, hk⟩) := by
    unfold dmaPay; rw [if_neg (by decide), if_pos rfl, slot_owns]; rfl
  rw [hpay] at H ⊢
  iintro ⟨#Hc, ⟨HO, Hr, ⟨Hp, Hat⟩, Hd⟩, HR⟩
  iapply (wp_load_part c (M := rM) (slotRect ⟨k, hk⟩) (fun _ => rfl)) $$ Hp
  iintro Hp
  iapply H
  isplitr; · iexact Hc
  isplitr [HR]
  · isplitl [HO]; · iexact HO
    isplitl [Hr]; · iexact Hr
    isplitl [Hp Hat]
    · isplitl [Hp]; · iexact Hp
      iexact Hat
    iexact Hd
  iexact HR

end Cert.KernelIdealProof
-- ==== Proof.Buffers.lean ====
/-
The buffers in parts: a 512 by 512 buffer is its 32 groups of 16 rows, the buffer of received blocks its 31 slots. And
the loads and stores that take a whole buffer, or one group of rows.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet bigSep_rangeSet_head bigSep_rangeSet_last bigSep_rangeSet_empty rangeSet_univ)

variable {F : FTy → Type} [FloatOps F]

local notation "𝕄" => MT nD τ sig Unit (Elt F) ℕ UU ℕ

variable (m : (ℓ : Loc nD τ sig) → Buf (Elt F) ℓ) (K : Dev nD × Option (Fin 4 × Fin 31) → ℕ) (c : Dev nD)

/-! ## Cutting a buffer up and putting it together -/

/-- Two devices' rows do not meet, -/
theorem rows_disjoint (d d' : Dev nD) (h : d ≠ d') : Disjoint (rowRect d).set (rowRect d').set := by
  rw [Finset.disjoint_left]
  intro i h1 h2
  have a1 := Rect.mem_set_unit.mp h1 0
  have a2 := Rect.mem_set_unit.mp h2 0
  have e1 : S16x512.size 0 = 16 := rfl
  simp only [Matrix.cons_val_zero, e1] at a1 a2
  exact h (Fin.ext (by omega))
/-- and the devices' rows are all the rows. -/
theorem rows_cover : (Finset.univ : Finset (Dev nD)).biUnion (fun d => (rowRect d).set) = Finset.univ := by
  ext i; simp only [Finset.mem_biUnion, Finset.mem_univ, true_and, iff_true]
  have h0 : (i 0).val < 512 := (i 0).isLt
  have h1 : (i 1).val < 512 := (i 1).isLt
  refine ⟨(⟨(i 0).val / 16, by show _ < 32; omega⟩ : Dev nD), Rect.mem_set_unit.mpr ?_⟩
  intro a; fin_cases a
  · show 16 * ((i 0).val / 16) ≤ (i 0).val ∧ (i 0).val < 16 * ((i 0).val / 16) + 16
    omega
  · show 0 ≤ (i 1).val ∧ (i 1).val < 0 + 512
    omega

/-- Two slots do not meet, -/
theorem slots_disjoint (j j' : Fin 31) (h : j ≠ j') : Disjoint (slotRect j).set (slotRect j').set := by
  rw [Finset.disjoint_left]
  intro i h1 h2
  have a1 := Rect.mem_set_unit.mp h1 0
  have a2 := Rect.mem_set_unit.mp h2 0
  have e1 : S1x16x512.size 0 = 1 := rfl
  simp only [Matrix.cons_val_zero, e1] at a1 a2
  exact h (Fin.ext (by omega))
/-- and the slots are the whole buffer of received blocks. -/
theorem slots_cover : (Finset.univ : Finset (Fin 31)).biUnion (fun j => (slotRect j).set) = Finset.univ := by
  ext i; simp only [Finset.mem_biUnion, Finset.mem_univ, true_and, iff_true]
  have h0 : (i 0).val < 31 := (i 0).isLt
  have h1 : (i 1).val < 16 := (i 1).isLt
  have h2 : (i 2).val < 512 := (i 2).isLt
  refine ⟨⟨(i 0).val, h0⟩, Rect.mem_set_unit.mpr ?_⟩
  intro a; fin_cases a
  · show (i 0).val ≤ (i 0).val ∧ (i 0).val < (i 0).val + 1
    omega
  · show 0 ≤ (i 1).val ∧ (i 1).val < 0 + 16
    omega
  · show 0 ≤ (i 2).val ∧ (i 2).val < 0 + 512
    omega

/-- A 512 by 512 buffer at `X` is its groups of rows at `X`'s rows, -/
theorem rows_split (M : Memref sig .tc .vmem S512x512 .f32) (X : S512x512.Idx → Elt F .f32) :
    (owns (c : Thread nD τ) M fullShare X : sProp 𝕄) ⊢ bigSep Finset.univ fun d => owns (c : Thread nD τ) (rowsM M d) fullShare (rowsOf X d) :=
  owns_rects (c : Thread nD τ) M fullShare rowRect (fun _ _ => rfl) rows_disjoint rows_cover X
/-- and back. -/
theorem rows_join (M : Memref sig .tc .vmem S512x512 .f32) (X : S512x512.Idx → Elt F .f32) :
    (bigSep Finset.univ fun d => owns (c : Thread nD τ) (rowsM M d) fullShare (rowsOf X d)) ⊢ (owns (c : Thread nD τ) M fullShare X : sProp 𝕄) :=
  owns_of_rects (c : Thread nD τ) M fullShare rowRect (fun _ _ => rfl) rows_disjoint rows_cover X

/-- Disjoint rectangles that cover a memref, each owned at some contents, are the memref at some contents. -/
theorem any_join {T : Type} [Fintype T] [DecidableEq T] {sp : Space} {sh : Shape} {e : EltTy} (M : Memref sig .tc sp sh e) (r : T → Rect sh)
    (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, owns (c : Thread nD τ) (M.slice (r t) (hr t)) fullShare X))
      ⊢ (iprop(∃ X, owns (c : Thread nD τ) M fullShare X) : sProp 𝕄) := by
  refine BIBase.Entails.trans (bigSep_exists_pi Finset.univ fun t X => owns (c : Thread nD τ) (M.slice (r t) (hr t)) fullShare X) ?_
  iintro ⟨%Xs, H⟩
  have hg (t : T) : (fun j => Rect.glue r hcov Xs ((r t).emb j)) = Xs t := funext fun y => Rect.glue_emb r hcov hd Xs t y
  iexists (Rect.glue r hcov Xs)
  iapply (show _ ⊢ (owns (c : Thread nD τ) M fullShare (Rect.glue r hcov Xs) : sProp 𝕄) from
    owns_of_rects (c : Thread nD τ) M fullShare r hr hd hcov (Rect.glue r hcov Xs))
  simp only [hg]
  iexact H

/-- A separating conjunction is monotone in its members. -/
theorem bigSep_le {I : Type} {S : Finset I} {Φ Ψ : I → sProp 𝕄} (h : ∀ i ∈ S, Φ i ⊢ Ψ i) : bigSep S Φ ⊢ bigSep S Ψ := bigSep_mono h

/-- A separating conjunction over a type with one element more. -/
theorem bigSep_opt {A : Type} [Fintype A] [DecidableEq A] (Φ : Option A → sProp 𝕄) : bigSep Finset.univ Φ = iprop(Φ none ∗ bigSep Finset.univ fun j => Φ (some j)) := by
  have : (Finset.univ : Finset (Option A)) = insert none (Finset.univ.map Function.Embedding.some) := by ext o; cases o <;> simp
  rw [this, bigSep_insert (by simp), bigSep_map]; rfl

/-- A separating conjunction over the devices: one device and the others, counted forward from it. -/
theorem bigSep_fwd (Φ : Dev nD → sProp 𝕄) : bigSep Finset.univ Φ = iprop(Φ c ∗ bigSep Finset.univ fun j => Φ (fwd c j)) := by
  rw [bigSep_univ_equiv (devsE c), bigSep_opt]; rfl
/-- The same, counted backward. -/
theorem bigSep_bwd (Φ : Dev nD → sProp 𝕄) : bigSep Finset.univ Φ = iprop(Φ c ∗ bigSep Finset.univ fun j => Φ (bwd c j)) := by
  rw [bigSep_univ_equiv (devsB c), bigSep_opt]; simp only [devsB_none, devsB_some]

/-- A group of rows at given contents is the group at some contents. -/
theorem rows_weaken (d : Dev nD) (M : Memref sig .tc .vmem S512x512 .f32) (X : S16x512.Idx → Elt F .f32) :
    (owns (c : Thread nD τ) (rowsM M d) fullShare X : sProp 𝕄) ⊢ iprop(∃ X, owns (c : Thread nD τ) (rowsM M d) fullShare X) := by
  iintro H; iexists X; iexact H

/-- The slots of the buffer of received blocks, at anything, from the buffer at anything, -/
theorem slots_split : (iprop(∃ X, owns (c : Thread nD τ) rM fullShare X) : sProp 𝕄) ⊢ bigSep Finset.univ fun j => slotAny c j := by
  iintro ⟨%X, H⟩
  ihave H2 := (show (owns (c : Thread nD τ) rM fullShare X : sProp 𝕄) ⊢ bigSep Finset.univ fun j =>
      owns (c : Thread nD τ) ((rM : Memref sig .tc .vmem S31x16x512 .f32).slice (slotRect j) (fun _ => rfl)) fullShare (fun i => X ((slotRect j).emb i)) from
    owns_rects (c : Thread nD τ) rM fullShare slotRect (fun _ _ => rfl) slots_disjoint slots_cover X) $$ H
  iapply (bigSep_le (Φ := fun j => owns (c : Thread nD τ) ((rM : Memref sig .tc .vmem S31x16x512 .f32).slice (slotRect j) (fun _ => rfl)) fullShare (fun i => X ((slotRect j).emb i)))
    fun j _ => show _ ⊢ slotAny (F := F) c j from by
      unfold slotAny
      iintro H
      iexists (fun i => X ((slotRect j).emb (Shape.reshapeEquiv squeezes_S1x16x512_S16x512.numel_eq i)))
      rw [slot_owns]
      simp only [Equiv.apply_symm_apply]
      iexact H)
  iexact H2
/-- and back. -/
theorem slots_join : (bigSep Finset.univ fun j => slotAny c j) ⊢ (iprop(∃ X, owns (c : Thread nD τ) rM fullShare X) : sProp 𝕄) := by
  refine BIBase.Entails.trans ?_ (any_join c rM slotRect (fun _ _ => rfl) slots_disjoint slots_cover)
  refine bigSep_mono fun j _ => ?_
  show slotAny c j ⊢ _
  unfold slotAny
  iintro ⟨%X, H⟩
  ihave H2 := (Entails.of_eq (slot_owns c j fullShare X)) $$ H
  iexists _
  iexact H2

/-- The output buffer at anything: the device's own rows, and those of the others. -/
theorem out_split : (iprop(∃ X, owns (c : Thread nD τ) oM fullShare X) : sProp 𝕄) ⊢ iprop(outAny c c ∗ bigSep Finset.univ fun j => outAny c (fwd c j)) := by
  rw [← bigSep_fwd c fun d => outAny c d]
  iintro ⟨%X, H⟩
  ihave H2 := (rows_split c oM X) $$ H
  iapply (bigSep_le (Φ := fun d => owns (c : Thread nD τ) (rowsM oM d) fullShare (rowsOf X d))
    fun d _ => show _ ⊢ outAny (F := F) c d from rows_weaken c d oM (rowsOf X d))
  iexact H2

/-- What the kernel leaves in the output buffer, on every device: device `d`'s rows are what device `d` computed. -/
def outAll : S512x512.Idx → Elt F .f32 := Rect.glue rowRect rows_cover fun d => gout m d
/-- Device `d`'s rows of it are what device `d` computed. -/
theorem rowsOf_outAll (d : Dev nD) : rowsOf (outAll m) d = gout m d := funext fun y => Rect.glue_emb rowRect rows_cover rows_disjoint (fun d => gout m d) d y

/-- The output buffer from the device's own rows and what it received. -/
theorem out_join : iprop(owns (c : Thread nD τ) (rowsM oM c) fullShare (gout m c)
      ∗ bigSep Finset.univ fun j => dmaPay m 3 c j) ⊢ (owns (c : Thread nD τ) oM fullShare (outAll m) : sProp 𝕄) := by
  refine BIBase.Entails.trans ?_ (rows_join c oM (outAll m))
  refine BIBase.Entails.trans ?_ (bigSep_le (Φ := fun d => owns (c : Thread nD τ) (rowsM oM d) fullShare (gout m d)) fun d _ =>
    Entails.of_eq (congrArg (owns (c : Thread nD τ) (rowsM oM d) fullShare) (rowsOf_outAll m d).symm))
  rw [bigSep_bwd c]
  have h : ∀ j, dmaPay m 3 c j = owns (c : Thread nD τ) (rowsM oM (bwd c j)) fullShare (gout m (bwd c j)) := by
    intro j; unfold dmaPay; rw [if_neg (by decide), if_neg (by decide), if_neg (by decide)]
  simp only [h]
  exact .rfl

/-- The shares sent with the all-gather copies, back: the device's own rows in full. -/
theorem share_join (k : ℕ) (hk : k ≤ 31) : iprop(owns (c : Thread nD τ) (rowsM oM c) (shareAt k) (gout m c) ∗ done k fun j => dmaPay m 2 c j)
    ⊢ (owns (c : Thread nD τ) (rowsM oM c) fullShare (gout m c) : sProp 𝕄) := by
  induction k with
  | zero => iintro ⟨H, -⟩; iexact H
  | succ k ih =>
    refine BIBase.Entails.trans ?_ (ih (by omega))
    rw [done_last (by omega : k < 31)]
    iintro ⟨Hr, Hl, Hd⟩
    isplitr [Hd]
    · iapply (show iprop(owns (c : Thread nD τ) (rowsM oM c) (shareAt k).left (gout m c) ∗ owns (c : Thread nD τ) (rowsM oM c) (shareAt k).right (gout m c))
        ⊢ (owns (c : Thread nD τ) (rowsM oM c) (shareAt k) (gout m c) : sProp 𝕄) from (owns_halves (c : Thread nD τ) (rowsM oM c) (shareAt k) (gout m c)).2)
      isplitl [Hl]
      · iapply (show dmaPay m 2 c ⟨k, by omega⟩ ⊢ (owns (c : Thread nD τ) (rowsM oM c) (shareAt k).left (gout m c) : sProp 𝕄) from by
          unfold dmaPay; rw [if_neg (by decide), if_neg (by decide), if_pos rfl])
        iexact Hl
      iexact Hr
    iexact Hd

/-- The buffer of the device's own product, at anything, from its own rows and those the copies gave back. -/
theorem part_join : iprop(owns (c : Thread nD τ) (rowsM pM c) fullShare (rowsOf (part m c) c) ∗ bigSep Finset.univ fun j => dmaPay m 0 c j)
    ⊢ (iprop(∃ X, owns (c : Thread nD τ) pM fullShare X) : sProp 𝕄) := by
  have h : ∀ j, dmaPay m 0 c j = owns (c : Thread nD τ) (rowsM pM (fwd c j)) fullShare (rowsOf (part m c) (fwd c j)) := by
    intro j; unfold dmaPay; rw [if_pos rfl]
  simp only [h]
  rw [← bigSep_fwd c fun d => owns (c : Thread nD τ) (rowsM pM d) fullShare (rowsOf (part m c) d)]
  iintro H
  iexists (part m c)
  iapply (rows_join c pM (part m c)); iexact H

/-- The slots, at what was received, are the slots at something. -/
theorem recv_join : (bigSep Finset.univ fun j => dmaPay m 1 c j) ⊢ (iprop(∃ X, owns (c : Thread nD τ) rM fullShare X) : sProp 𝕄) := by
  refine BIBase.Entails.trans (bigSep_mono fun j _ => ?_) (slots_join c)
  show dmaPay m 1 c j ⊢ slotAny c j
  unfold dmaPay slotAny; rw [if_neg (by decide), if_pos rfl]
  iintro H; iexists _; iexact H

/-! ## Programs -/

/-- A program followed by another runs to what the other runs to from its result. -/
theorem Wp_bind {α β : Type} (p : Prog (TpuEff nD τ sig (Elt F) Λ₀ .tc) α) (k : α → Prog (TpuEff nD τ sig (Elt F) Λ₀ .tc) β) (Q : β → sProp 𝕄) :
    Wp c (p >>= k) Q = Wp c p fun a => Wp c (k a) Q := wp_bind _ _ _ _ _ _
/-- A program that returns has run. -/
theorem Wp_ret {α : Type} (a : α) (Q : α → sProp 𝕄) : (Q a : sProp 𝕄) ⊢ Wp c (.ret a) Q := by
  unfold Wp; rw [wp_ret]; iintro H; imodintro; iexact H
/-- Asked for its number, a device reads its own. -/
theorem Wp_deviceId {α : Type} (k : Dev nD → Prog (TpuEff nD τ sig (Elt F) Λ₀ .tc) α) (Q : α → sProp 𝕄) :
    Wp c (.op .deviceId k) Q = Wp c (k c) Q := wp_deviceId _ _ _ _

/-- A load of a whole memref owned at `X` continues at what the rectangle reads of `X`. -/
theorem wp_load_all {sp : CoreSpace} {sh : Shape} {e : EltTy} {M : Memref sig .tc sp sh e} {r : LoadRect sh} {hl : M.view.LoadsAt r}
    {q : PosShare TreeShare} {X : sh.Idx → Elt F e} (Y : r.shape.Idx → Elt F e) (hY : ∀ f, M.view.read (Elt F) f = X → M.view.readAt (Elt F) r f = Y)
    {α : Type} {Q : α → sProp 𝕄} {cont : (r.shape.Idx → Elt F e) → Prog (TpuEff nD τ sig (Elt F) Λ₀ .tc) α} :
    (owns (c : Thread nD τ) M q X : sProp 𝕄)
      ⊢ iprop((owns (c : Thread nD τ) M q X -∗ Wp c (cont Y) Q) -∗ Wp c (.op (.load M r hl) cont) Q) := by
  unfold owns
  iintro ⟨%f, %hf, H⟩ Hk
  iapply (wp_load 𝒱₀ (c : Thread nD τ) none Set.univ (m := M) (r := r) (S := M.view.set) (Finset.map_subset_map.mpr (Finset.subset_univ _))) $$ H
  iintro H
  rw [hY f hf]
  iapply Hk
  iexists f
  isplitr; · ipureintro; exact hf
  iexact H

/-- A store that overwrites all of a memref. -/
theorem wp_store_all {sp : CoreSpace} {sh : Shape} {e : EltTy} {M : Memref sig .tc sp sh e} {r : Rect sh} {w : r.shape.Idx → Elt F e}
    {hx : (M.access r).Stores Finset.univ} {hm : (Finset.univ : Finset r.shape.Idx) = Finset.univ ∨ ∀ a, r.stride a = 1}
    {X : sh.Idx → Elt F e} (Y : sh.Idx → Elt F e) (hY : ∀ f, M.view.read (Elt F) ((M.access r).write (Elt F) f w Finset.univ) = Y)
    {α : Type} {Q : α → sProp 𝕄} {cont : PUnit → Prog (TpuEff nD τ sig (Elt F) Λ₀ .tc) α} :
    (owns (c : Thread nD τ) M fullShare X : sProp 𝕄)
      ⊢ iprop((owns (c : Thread nD τ) M fullShare Y -∗ Wp c (cont ⟨⟩) Q) -∗ Wp c (.op (.store M r w Finset.univ hx hm) cont) Q) := by
  unfold owns
  iintro ⟨%f, %hf, H⟩ Hk
  iapply (wp_store 𝒱₀ (c : Thread nD τ) none Set.univ (m := M) (r := r) (Mk := Finset.univ) (S := M.view.set) (View.set_slice_subset _ _)) $$ H
  iintro H
  iapply Hk
  iexists _
  isplitr
  rotate_left
  · iexact H
  ipureintro; exact hY f

/-- A store that overwrites a part of a memref of which that part is owned. -/
theorem wp_store_part {sp : CoreSpace} {sh : Shape} {e : EltTy} {M : Memref sig .tc sp sh e} (r : Rect sh) (hr : ∀ a, r.stride a = 1)
    {w : r.shape.Idx → Elt F e} {hx : (M.access r).Stores Finset.univ} {hm : (Finset.univ : Finset r.shape.Idx) = Finset.univ ∨ ∀ a, r.stride a = 1}
    {X : r.shape.Idx → Elt F e}
    {α : Type} {Q : α → sProp 𝕄} {cont : PUnit → Prog (TpuEff nD τ sig (Elt F) Λ₀ .tc) α} :
    (owns (c : Thread nD τ) (M.slice r hr) fullShare X : sProp 𝕄)
      ⊢ iprop((owns (c : Thread nD τ) (M.slice r hr) fullShare w -∗ Wp c (cont ⟨⟩) Q) -∗ Wp c (.op (.store M r w Finset.univ hx hm) cont) Q) := by
  unfold owns
  iintro ⟨%f, %hf, H⟩ Hk
  iapply (wp_store 𝒱₀ (c : Thread nD τ) none Set.univ (m := M) (r := r) (Mk := Finset.univ) (S := (M.access r).set) (le_refl _)) $$ H
  iintro H
  iapply Hk
  iexists _
  isplitr
  rotate_left
  · iexact H
  ipureintro; exact View.read_write_univ _ _

end Cert.KernelIdealProof
-- ==== Proof.Phases.lean ====
/-
The kernel's phases. Between two runs of like steps the device does its own arithmetic, or only turns to the next kind
of step; each lemma here takes the state the one run ends in to the state the next starts from.
-/
module

public import proofs.«01_k».proof.Proof.Buffers
public import Idealize.ShloMosaic.Lib.Rounds.Family

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet bigSep_rangeSet_head bigSep_rangeSet_last bigSep_rangeSet_empty rangeSet_univ)

variable {F : FTy → Type} [FloatOps F]

local notation "𝕄" => MT nD τ sig Unit (Elt F) ℕ UU ℕ

variable (m : (ℓ : Loc nD τ sig) → Buf (Elt F) ℓ) (K : Dev nD × Option (Fin 4 × Fin 31) → ℕ) (c : Dev nD)

/-! ## What a device holds, phase by phase -/

/-- The two staged blocks of the arguments. -/
def args : sProp 𝕄 := iprop(owns (c : Thread nD τ) aM fullShare (xA m c) ∗ owns (c : Thread nD τ) bM fullShare (xB m c))
/-- For each place a wait on array `q` to come. -/
def waits (q : Fin 4) : sProp 𝕄 := bigSep Finset.univ fun j => iprop(cred (tallyAt (dcell q c j) () N) ∗ atPos ER (dcell q c j) 0 ∅ 0)
/-- For each place that no round of array `q`'s cell is consumed. -/
def ats (q : Fin 4) : sProp 𝕄 := bigSep Finset.univ fun j => atPos ER (dcell q c j) 0 ∅ 0
/-- What the waits on array `q` handed over. -/
def taken (q : Fin 4) : sProp 𝕄 := bigSep Finset.univ fun j => iprop(dmaPay m q c j ∗ atPos ER (dcell q c j) 1 ∅ 0)
/-- The duties of the two ends of the copies on arrays `q` and `q'`. -/
def toksOf (q q' : Fin 4) : sProp 𝕄 := bigSep Finset.univ fun j => iprop(dutyTok ER (dcell q c j) 0 0 ∗ dutyTok ER (dcell q' (fwd c j) j) 0 0)

/-- Beside the signals. -/
def R0 : sProp 𝕄 :=
  iprop(args m c ∗ (∃ X, owns (c : Thread nD τ) pM fullShare X) ∗ outAny c c ∗ (atPos ER (barCell c) 0 ∅ 0 ∗ cred (tallyAt (barCell c) () 31))
    ∗ toksOf c 0 1 ∗ toksOf c 2 3 ∗ waits c 1 ∗ waits c 3 ∗ ats c 0 ∗ ats c 2)
/-- The all-gather's copies to come. -/
def agToks : sProp 𝕄 := bigSep Finset.univ fun j => iprop(dutyTok ER (dcell 2 c j) 0 0 ∗ dutyTok ER (dcell 3 (fwd c j) j) 0 0 ∗ outAny (fwd c j) c)
/-- Beside the reduce-scatter's copies. -/
def R1 : sProp 𝕄 :=
  iprop(args m c ∗ owns (c : Thread nD τ) (rowsM pM c) fullShare (rowsOf (part m c) c) ∗ outAny c c ∗ atPos ER (barCell c) 1 ∅ 0
    ∗ agToks c ∗ waits c 1 ∗ waits c 3 ∗ ats c 0 ∗ ats c 2)
/-- Beside the reduce-scatter's receive waits. -/
def R2 : sProp 𝕄 :=
  iprop(args m c ∗ owns (c : Thread nD τ) (rowsM pM c) fullShare (rowsOf (part m c) c) ∗ outAny c c ∗ atPos ER (barCell c) 1 ∅ 0
    ∗ agToks c ∗ waits c 3 ∗ waits c 0 ∗ ats c 2)
/-- Beside the all-gather's copies. -/
def R3 : sProp 𝕄 :=
  iprop(args m c ∗ owns (c : Thread nD τ) (rowsM pM c) fullShare (rowsOf (part m c) c) ∗ atPos ER (barCell c) 1 ∅ 0
    ∗ taken m c 1 ∗ waits c 3 ∗ waits c 0 ∗ ats c 2)
/-- From the all-gather's copies on. -/
def kept : sProp 𝕄 :=
  iprop(args m c ∗ owns (c : Thread nD τ) (rowsM pM c) fullShare (rowsOf (part m c) c) ∗ atPos ER (barCell c) 1 ∅ 0
    ∗ taken m c 1 ∗ owns (c : Thread nD τ) (rowsM oM c) (shareAt 31) (gout m c))
/-- Beside the second exchange's receive waits, -/
def R4 : sProp 𝕄 := iprop(kept m c ∗ waits c 0 ∗ waits c 2)
/-- the first exchange's send waits, -/
def R5 : sProp 𝕄 := iprop(kept m c ∗ taken m c 3 ∗ waits c 2)
/-- and the second exchange's send waits. -/
def R6 : sProp 𝕄 := iprop(kept m c ∗ taken m c 3 ∗ taken m c 0)

/-- What a device ends with: its staging buffers, the output holding every device's rows, the two scratch buffers, the
    semaphores at zero, nothing owed. -/
def fin : sProp 𝕄 :=
  iprop(args m c ∗ owns (c : Thread nD τ) oM fullShare (outAll m) ∗ (∃ X, owns (c : Thread nD τ) pM fullShare X) ∗ (∃ X, owns (c : Thread nD τ) rM fullShare X)
    ∗ semVal (barCell c) 0 ∗ (bigSep Finset.univ fun j => semVal (dcell 0 c j) 0) ∗ (bigSep Finset.univ fun j => semVal (dcell 1 c j) 0)
    ∗ (bigSep Finset.univ fun j => semVal (dcell 2 c j) 0) ∗ (bigSep Finset.univ fun j => semVal (dcell 3 c j) 0) ∗ owing c 0)

/-! ## Turning from one kind of step to the next -/

/-- A device that may wait on an array stands before the first of its waits, -/
theorem wait_start (q : Fin 4) (O : Tal) : iprop(owing c O ∗ waits c q) ⊢ waitSt m c q O 0 := by
  unfold waitSt waits; rw [rest_all, done_none]
  iintro ⟨HO, H⟩
  isplitl [HO]; · iexact HO
  isplitl [H]; · iexact H
  iempintro
/-- and after the last has taken everything. -/
theorem wait_end (q : Fin 4) (O : Tal) : waitSt m c q O 31 ⊢ iprop(owing c O ∗ taken m c q) := by
  unfold waitSt taken; rw [rest_none, done_all]
  iintro ⟨HO, -, H⟩
  isplitl [HO]; · iexact HO
  iexact H
/-- The credits of 31 sends, with the places in their semaphores' rounds, are the right to wait for them. -/
theorem credits_waits (q : Fin 4) : iprop((done 31 fun j => cred (tallyAt (dcell q c j) () N)) ∗ ats c q) ⊢ (waits c q : sProp 𝕄) := by
  unfold ats waits; rw [done_all, bigSep_sep']

/-- The offsets are zero. -/
theorem hz : (![0, 0] : Fin 2 → Nat) = fun _ => 0 := funext fun a => by fin_cases a <;> rfl

/-- A store of the whole buffer of partial sums leaves what was stored. -/
theorem write_product {ip : ∀ a, (![0, 0] : Fin 2 → ℕ) a + S512x512.size a ≤ S512x512.size a} (f w : (cc0_scratch0 : Ref sig .tc).ty.Contents (Elt F)) :
    (pM : Memref sig .tc .vmem S512x512 .f32).view.read (Elt F)
      (((pM : Memref sig .tc .vmem S512x512 .f32).access (Rect.unit (s := S512x512) ![0, 0] S512x512.size ip) : View sig .tc _ _ _).write (Elt F) f w Finset.univ) = w :=
  (View.read_whole (Val := Elt F) (cc0_scratch0 : Ref sig .tc) _).trans (Memref.write_access_unit_zero_univ (Elt F) cc0_scratch0 hz _ f w)

/-- The device's own product, and the wait for the others' signals. -/
theorem step_product {ia : ∀ a, (![0, 0] : Fin 2 → ℕ) a + S512x256.size a ≤ S512x256.size a} {la : (aM : Memref sig .tc .vmem S512x256 .f32).view.LoadsAt (Rect.unit (s := S512x256) ![0, 0] S512x256.size ia).toLoadRect}
    {ib : ∀ a, (![0, 0] : Fin 2 → ℕ) a + S256x512.size a ≤ S256x512.size a} {lb : (bM : Memref sig .tc .vmem S256x512 .f32).view.LoadsAt (Rect.unit (s := S256x512) ![0, 0] S256x512.size ib).toLoadRect}
    {ip : ∀ a, (![0, 0] : Fin 2 → ℕ) a + S512x512.size a ≤ S512x512.size a} {lp : (pM : Memref sig .tc .vmem S512x512 .f32).view.LoadsAt (Rect.unit (s := S512x512) ![0, 0] S512x512.size ip).toLoadRect}
    {hx : ((pM : Memref sig .tc .vmem S512x512 .f32).access (Rect.unit (s := S512x512) ![0, 0] S512x512.size ip)).Stores Finset.univ} {hm}
    {s : Sem sig} (hs : s = barS) {a : ℕ} (ha : a = 31)
    {α : Type} {Q : α → sProp 𝕄} {cont : PUnit → Prog (TpuEff nD τ sig (Elt F) Λ₀ .tc) α}
    (H : iprop(ctx m K ∗ rsSt m c 0 ∗ R1 m c) ⊢ Wp c (cont ⟨⟩) Q) :
    iprop(ctx m K ∗ sigSt c 31 ∗ R0 m c)
      ⊢ Wp c (.op (.load (aM : Memref sig .tc .vmem S512x256 .f32) (Rect.unit (s := S512x256) ![0, 0] S512x256.size ia).toLoadRect la) fun x =>
          .op (.load (bM : Memref sig .tc .vmem S256x512 .f32) (Rect.unit (s := S256x512) ![0, 0] S256x512.size ib).toLoadRect lb) fun y =>
          .op (.load (pM : Memref sig .tc .vmem S512x512 .f32) (Rect.unit (s := S512x512) ![0, 0] S512x512.size ip).toLoadRect lp) fun _ =>
          .op (.store (pM : Memref sig .tc .vmem S512x512 .f32) (Rect.unit (s := S512x512) ![0, 0] S512x512.size ip) (k0_pay1 x y) Finset.univ hx hm) fun _ =>
          .op (.semWait s a) cont) Q := by
  unfold R0 args sigSt
  rw [rest_none]
  iintro ⟨#Hc, ⟨HO, -⟩, ⟨Ha, Hb⟩, ⟨%X, Hp⟩, Ho, ⟨Hat, Hcr⟩, T1, T2, W1, W3, P0, P2⟩
  iapply (wp_load_all c (M := aM) (xA m c) fun f hf => (Memref.readAt_unit_zero (Elt F) cc0_stg0_0 hz _ f).trans hf) $$ Ha
  iintro Ha
  iapply (wp_load_all c (M := bM) (xB m c) fun f hf => (Memref.readAt_unit_zero (Elt F) cc0_stg1_0 hz _ f).trans hf) $$ Hb
  iintro Hb
  iapply (wp_load_all c (M := pM) X fun f hf => (Memref.readAt_unit_zero (Elt F) cc0_scratch0 hz _ f).trans hf) $$ Hp
  iintro Hp
  iapply (wp_store_all c (M := pM) (part m c) fun f => write_product f (part m c)) $$ Hp
  iintro Hp
  iapply (step_barrier m K c hs ha (R := iprop(args m c ∗ (bigSep Finset.univ fun d => owns (c : Thread nD τ) (rowsM pM d) fullShare (rowsOf (part m c) d)) ∗ outAny c c
    ∗ toksOf c 0 1 ∗ toksOf c 2 3 ∗ waits c 1 ∗ waits c 3 ∗ ats c 0 ∗ ats c 2)) (by
      refine BIBase.Entails.trans ?_ H
      rw [bigSep_fwd c fun d => owns (c : Thread nD τ) (rowsM pM d) fullShare (rowsOf (part m c) d)]
      unfold rsSt R1 toksOf agToks
      rw [rest_all, done_none]
      simp only [bigSep_sep']
      iintro ⟨#Hc, ⟨HO, Hat, Hs, Hog⟩, Hargs, ⟨Hpc, Hpo⟩, Ho, ⟨T0, T1⟩, ⟨T2, T3⟩, W1, W3, P0, P2⟩
      isplitr; · iexact Hc
      isplitl [HO T0 T1 Hpo Hs]
      · isplitl [HO]; · iexact HO
        isplitl [T0 T1 Hpo Hs]
        · isplitl [T0]; · iexact T0
          isplitl [T1]; · iexact T1
          isplitl [Hpo]; · iexact Hpo
          iexact Hs
        iempintro
      isplitl [Hargs]; · iexact Hargs
      isplitl [Hpc]; · iexact Hpc
      isplitl [Ho]; · iexact Ho
      isplitl [Hat]; · iexact Hat
      isplitl [T2 T3 Hog]
      · isplitl [T2]; · iexact T2
        isplitl [T3]; · iexact T3
        iexact Hog
      isplitl [W1]; · iexact W1
      isplitl [W3]; · iexact W3
      isplitl [P0]; · iexact P0
      iexact P2))
  isplitr; · iexact Hc
  isplitl [HO Hat Hcr]
  · isplitl [HO]; · iexact HO
    isplitl [Hat]; · iexact Hat
    iexact Hcr
  isplitl [Ha Hb]
  · unfold args
    isplitl [Ha]; · iexact Ha
    iexact Hb
  isplitl [Hp]; · iapply (rows_split c pM (part m c)); iexact Hp
  isplitl [Ho]; · iexact Ho
  isplitl [T1]; · iexact T1
  isplitl [T2]; · iexact T2
  isplitl [W1]; · iexact W1
  isplitl [W3]; · iexact W3
  isplitl [P0]; · iexact P0
  iexact P2

/-- The device's own rows of its own product. -/
theorem step_own {off : Fin 2 → ℕ} (hoff : off = ![16 * c.val, 0]) {hinb : ∀ a, off a + S16x512.size a ≤ S512x512.size a}
    {hl : (pM : Memref sig .tc .vmem S512x512 .f32).view.LoadsAt (Rect.unit (s := S512x512) off S16x512.size hinb).toLoadRect}
    {α : Type} {Q : α → sProp 𝕄} {cont : (S16x512.Idx → Elt F .f32) → Prog (TpuEff nD τ sig (Elt F) Λ₀ .tc) α}
    (H : iprop(ctx m K ∗ waitSt m c 1 (owe c 31 31 0) 0 ∗ R2 m c) ⊢ Wp c (cont (zsum m c 0)) Q) :
    iprop(ctx m K ∗ rsSt m c 31 ∗ R1 m c)
      ⊢ Wp c (.op (.load (pM : Memref sig .tc .vmem S512x512 .f32) (Rect.unit (s := S512x512) off S16x512.size hinb).toLoadRect hl) cont) Q := by
  subst hoff
  unfold R1 rsSt
  rw [rest_none]
  iintro ⟨#Hc, ⟨HO, -, Hcr⟩, Hargs, Hp, Ho, Hat, T, W1, W3, P0, P2⟩
  iapply (wp_load_part c (M := pM) (rowRect c) (fun _ => rfl)) $$ Hp
  iintro Hp
  iapply H
  isplitr; · iexact Hc
  isplitl [HO W1]
  · iapply (wait_start m c 1 (owe c 31 31 0))
    isplitl [HO]; · iexact HO
    iexact W1
  unfold R2
  isplitl [Hargs]; · iexact Hargs
  isplitl [Hp]; · iexact Hp
  isplitl [Ho]; · iexact Ho
  isplitl [Hat]; · iexact Hat
  isplitl [T]; · iexact T
  isplitl [W3]; · iexact W3
  isplitl [Hcr P0]
  · iapply (credits_waits c 0)
    isplitl [Hcr]; · iexact Hcr
    iexact P0
  iexact P2

/-- The device's own rows of the result, written to its output buffer. -/
theorem step_out {off : Fin 2 → ℕ} (hoff : off = ![16 * c.val, 0]) {hinb : ∀ a, off a + S16x512.size a ≤ S512x512.size a}
    {hl : (oM : Memref sig .tc .vmem S512x512 .f32).view.LoadsAt (Rect.unit (s := S512x512) off S16x512.size hinb).toLoadRect}
    {w : S16x512.Idx → Elt F .f32} (hw : w = gout m c)
    {hx : ((oM : Memref sig .tc .vmem S512x512 .f32).access (Rect.unit (s := S512x512) off S16x512.size hinb)).Stores Finset.univ} {hm}
    {α : Type} {Q : α → sProp 𝕄} {cont : PUnit → Prog (TpuEff nD τ sig (Elt F) Λ₀ .tc) α}
    (H : iprop(ctx m K ∗ agSt m c 0 ∗ R3 m c) ⊢ Wp c (cont ⟨⟩) Q) :
    iprop(ctx m K ∗ waitSt m c 1 (owe c 31 31 0) 31 ∗ R2 m c)
      ⊢ Wp c (.op (.load (oM : Memref sig .tc .vmem S512x512 .f32) (Rect.unit (s := S512x512) off S16x512.size hinb).toLoadRect hl) fun _ =>
          .op (.store (oM : Memref sig .tc .vmem S512x512 .f32) (Rect.unit (s := S512x512) off S16x512.size hinb) w Finset.univ hx hm) cont) Q := by
  subst hoff; subst hw
  unfold R2 outAny
  iintro ⟨#Hc, Hw, Hargs, Hp, ⟨%X, Ho⟩, Hat, T, W3, W0, P2⟩
  ihave Hw' := (wait_end m c 1 (owe c 31 31 0)) $$ Hw
  icases Hw' with ⟨HO, D1⟩
  iapply (wp_load_part c (M := oM) (rowRect c) (fun _ => rfl)) $$ Ho
  iintro Ho
  iapply (wp_store_part c (M := oM) (rowRect c) (fun _ => rfl)) $$ Ho
  iintro Ho
  iapply H
  isplitr; · iexact Hc
  isplitl [HO Ho T]
  · unfold agSt agToks; rw [rest_all, done_none]
    isplitl [HO Ho]
    · isplitl [HO]; · iexact HO
      iexact Ho
    isplitl [T]; · iexact T
    iempintro
  unfold R3
  isplitl [Hargs]; · iexact Hargs
  isplitl [Hp]; · iexact Hp
  isplitl [Hat]; · iexact Hat
  isplitl [D1]; · iexact D1
  isplitl [W3]; · iexact W3
  isplitl [W0]; · iexact W0
  iexact P2

/-- From the all-gather's copies to its receive waits, -/
theorem turn_gather : iprop(ctx m K ∗ agSt m c 31 ∗ R3 m c) ⊢ iprop(ctx m K ∗ waitSt m c 3 (owe c 31 31 31) 0 ∗ R4 m c) := by
  unfold agSt R3; rw [rest_none]
  iintro ⟨#Hc, ⟨⟨HO, Ho⟩, -, Hcr⟩, Hargs, Hp, Hat, D1, W3, W0, P2⟩
  isplitr; · iexact Hc
  isplitl [HO W3]
  · iapply (wait_start m c 3 (owe c 31 31 31))
    isplitl [HO]; · iexact HO
    iexact W3
  unfold R4 kept
  isplitl [Hargs Hp Hat D1 Ho]
  · isplitl [Hargs]; · iexact Hargs
    isplitl [Hp]; · iexact Hp
    isplitl [Hat]; · iexact Hat
    isplitl [D1]; · iexact D1
    iexact Ho
  isplitl [W0]; · iexact W0
  iapply (credits_waits c 2)
  isplitl [Hcr]; · iexact Hcr
  iexact P2

/-- from those to the reduce-scatter's send waits, -/
theorem turn_sent : iprop(ctx m K ∗ waitSt m c 3 (owe c 31 31 31) 31 ∗ R4 m c) ⊢ iprop(ctx m K ∗ waitSt m c 0 (owe c 31 31 31) 0 ∗ R5 m c) := by
  unfold R4 R5
  iintro ⟨#Hc, Hw, Hk, W0, W2⟩
  ihave Hw' := (wait_end m c 3 (owe c 31 31 31)) $$ Hw
  icases Hw' with ⟨HO, D3⟩
  isplitr; · iexact Hc
  isplitl [HO W0]
  · iapply (wait_start m c 0 (owe c 31 31 31))
    isplitl [HO]; · iexact HO
    iexact W0
  isplitl [Hk]; · iexact Hk
  isplitl [D3]; · iexact D3
  iexact W2

/-- and from those to the all-gather's. -/
theorem turn_last : iprop(ctx m K ∗ waitSt m c 0 (owe c 31 31 31) 31 ∗ R5 m c) ⊢ iprop(ctx m K ∗ waitSt m c 2 (owe c 31 31 31) 0 ∗ R6 m c) := by
  unfold R5 R6
  iintro ⟨#Hc, Hw, Hk, D3, W2⟩
  ihave Hw' := (wait_end m c 0 (owe c 31 31 31)) $$ Hw
  icases Hw' with ⟨HO, D0⟩
  isplitr; · iexact Hc
  isplitl [HO W2]
  · iapply (wait_start m c 2 (owe c 31 31 31))
    isplitl [HO]; · iexact HO
    iexact W2
  isplitl [Hk]; · iexact Hk
  isplitl [D3]; · iexact D3
  iexact D0

/-! ## The end -/

/-- Array `q`'s cells, each past its one round, close at zero. -/
theorem close_cells (q : Fin 4) : iprop(ctx m K ∗ bigSep Finset.univ fun j => atPos ER (dcell q c j) 1 ∅ 0)
    ⊢ (iprop(|={Set.univ}=> bigSep Finset.univ fun j => semVal (dcell q c j) 0) : sProp 𝕄) := by
  refine BIBase.Entails.trans ?_ (Rounds.cells_close ER (Rd m) (Finset.univ : Finset (Fin 31)) (fun j => dcell q c j) (fun j => K (c, some (q, j)))
    (fun _ _ => Set.mem_univ _) (fun _ _ h => h) (fun _ => 1) (fun j _ => duties_later m (dcell q c j)))
  rw [bigSep_sep']
  iintro ⟨#Hc, H⟩
  isplitr
  · iapply (show ctx m K ⊢ (bigSep Finset.univ fun j => cellInv ER (Rd m) (K (c, some (q, j))) (dcell q c j)) from
      BIBase.Entails.trans (bigSep_of_persistent Finset.univ (ctx m K)) (bigSep_le fun j _ => ctx_inv m K (c, some (q, j))))
    iexact Hc
  iexact H

/-- All waits done, the semaphores close and the buffers come together. -/
theorem finish : iprop(ctx m K ∗ waitSt m c 2 (owe c 31 31 31) 31 ∗ R6 m c) ⊢ (iprop(|={Set.univ}=> fin m c) : sProp 𝕄) := by
  unfold R6 kept taken
  simp only [bigSep_sep']
  iintro ⟨#Hc, Hw, ⟨Hargs, Hp, Hat, ⟨D1, A1⟩, Ho⟩, ⟨D3, A3⟩, ⟨D0, A0⟩⟩
  ihave Hw' := (wait_end m c 2 (owe c 31 31 31)) $$ Hw
  unfold taken
  simp only [bigSep_sep']
  icases Hw' with ⟨HO, D2, A2⟩
  imod (close_cells m K c 0) $$ [A0] with Z0
  · isplitr; · iexact Hc
    iexact A0
  imod (close_cells m K c 1) $$ [A1] with Z1
  · isplitr; · iexact Hc
    iexact A1
  imod (close_cells m K c 2) $$ [A2] with Z2
  · isplitr; · iexact Hc
    iexact A2
  imod (close_cells m K c 3) $$ [A3] with Z3
  · isplitr; · iexact Hc
    iexact A3
  imod (Rounds.cell_close ER (Rd m) (Set.mem_univ (K (c, none))) (fun h => h) (R := 1) (duties_later m (barCell c))) $$ [Hat] with Zb
  · isplitr; · iapply (ctx_inv m K (c, none)); iexact Hc
    iexact Hat
  imodintro
  unfold fin
  isplitl [Hargs]; · iexact Hargs
  isplitl [Ho D2 D3]
  · iapply (out_join m c)
    isplitl [Ho D2]
    · iapply (share_join m c 31 (le_refl _))
      isplitl [Ho]; · iexact Ho
      rw [done_all]; iexact D2
    iexact D3
  isplitl [Hp D0]
  · iapply (part_join m c)
    isplitl [Hp]; · iexact Hp
    iexact D0
  isplitl [D1]; · iapply (recv_join m c); iexact D1
  isplitl [Zb]; · iexact Zb
  isplitl [Z0]; · iexact Z0
  isplitl [Z1]; · iexact Z1
  isplitl [Z2]; · iexact Z2
  isplitl [Z3]; · iexact Z3
  rw [← owe_end c]; iexact HO

end Cert.KernelIdealProof
-- ==== Proof.Body.lean ====
/-
The kernel's body run from start to end: its text flattened to one chain of operations, and each operation met by the
lemma of its kind.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet bigSep_rangeSet_head bigSep_rangeSet_last bigSep_rangeSet_empty rangeSet_univ)

variable {F : FTy → Type} [FloatOps F]

local notation "𝕄" => MT nD τ sig Unit (Elt F) ℕ UU ℕ

variable (m : (ℓ : Loc nD τ sig) → Buf (Elt F) ℓ) (K : Dev nD × Option (Fin 4 × Fin 31) → ℕ) (c : Dev nD)

/-- The rows the reduce-scatter's copy at place `j` reads are those of the device it goes to. -/
theorem off1_fwd (j : Fin 31) {w : BitVec 32} (hw : w = BitVec.ofNat 32 (1 + j.val)) : k0_off1 c w = ![16 * (fwd c j).val, 0] := by
  rw [hw, k0_off1_eq c j]
  simp only [fwd]

/-- One more slot added to the sum. -/
theorem zsum_add {k : ℕ} (hk : k < 31) :
    addf (zsum m c k) (shapeCast S16x512 (slotV m c ⟨k, hk⟩) shapeCasts_S1x16x512_S16x512) = zsum m c (k + 1) := by
  simp only [zsum, Nat.mod_eq_of_lt hk]

attribute [local simp] k0_dev1_eq k0_dev2_eq k0_dev3_eq k0_dev4_eq k0_dev5_eq k0_dev6_eq k0_dev7_eq k0_dev8_eq k0_dev9_eq k0_dev10_eq k0_dev11_eq k0_dev12_eq k0_dev13_eq k0_dev14_eq k0_dev15_eq k0_dev16_eq k0_dev17_eq k0_dev18_eq k0_dev19_eq k0_dev20_eq k0_dev21_eq k0_dev22_eq k0_dev23_eq k0_dev24_eq k0_dev25_eq k0_dev26_eq k0_dev27_eq k0_dev28_eq k0_dev29_eq k0_dev30_eq k0_dev31_eq k0_dev32_eq k0_dev33_eq k0_dev34_eq k0_dev35_eq k0_dev36_eq k0_dev37_eq k0_dev38_eq k0_dev39_eq k0_dev40_eq k0_dev41_eq k0_dev42_eq k0_dev43_eq k0_dev44_eq k0_dev45_eq k0_dev46_eq k0_dev47_eq k0_dev48_eq k0_dev49_eq k0_dev50_eq k0_dev51_eq k0_dev52_eq k0_dev53_eq k0_dev54_eq k0_dev55_eq k0_dev56_eq k0_dev57_eq k0_dev58_eq k0_dev59_eq k0_dev60_eq k0_dev61_eq k0_dev62_eq k0_dev63_eq k0_dev64_eq k0_dev65_eq k0_dev66_eq k0_dev67_eq k0_dev68_eq k0_dev69_eq k0_dev70_eq k0_dev71_eq k0_dev72_eq k0_dev73_eq k0_dev74_eq k0_dev75_eq k0_dev76_eq k0_dev77_eq k0_dev78_eq k0_dev79_eq k0_dev80_eq k0_dev81_eq k0_dev82_eq k0_dev83_eq k0_dev84_eq k0_dev85_eq k0_dev86_eq k0_dev87_eq k0_dev88_eq k0_dev89_eq k0_dev90_eq k0_dev91_eq k0_dev92_eq k0_dev93_eq

set_option maxRecDepth 1000000 in
set_option maxHeartbeats 600000 in
/-- Device `c`'s body, from what it holds at the start to the result in its output buffer. -/
theorem run_body : iprop(ctx m K ∗ sigSt c 0 ∗ R0 m c) ⊢ Wp c (cc0_body (F := F) aM (Memref.isWhole_whole _) bM (Memref.isWhole_whole _) oM (Memref.isWhole_whole _)
    pM (Memref.isWhole_whole _) rM (Memref.isWhole_whole _) cc0_scratch2 cc0_scratch3 cc0_scratch4 cc0_scratch5) (fun _ => fin m c) := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel,
    semSignalWord, semWaitWord, Prog.lift, Prog.bind_op, Prog.bind_ret, Prog.pure_eq_ret, Wp_deviceId]
  iterate 31 refine step_signal m K c (by decide) (by apply Fin.ext; simp [fwd]) (by exact rfl) (by decide) ?_
  refine step_product m K c (by exact rfl) (by decide) ?_
  iterate 31 refine step_rs m K c (by decide) (by apply Fin.ext; simp [fwd]) (by exact off1_fwd c _ (by exact rfl)) (by exact rfl) (by exact rfl) (by exact rfl) ?_
  refine step_own m K c (by exact k0_off2_eq c) ?_
  iterate 31
    refine step_wait m K c 1 31 0 (by decide) (by decide) (by decide) (by exact rfl) (by exact credit_slab _ _) ?_
    refine step_slot m K c (by decide) (by exact rfl) ?_
  refine step_out m K c (by exact k0_off2_eq c) (by
    simp only [k0_pay2, k0_pay3, k0_pay4, k0_pay5, k0_pay6, k0_pay7, k0_pay8, k0_pay9, k0_pay10, k0_pay11, k0_pay12, k0_pay13, k0_pay14, zsum_add, Nat.reduceAdd]
    rfl) ?_
  iterate 31 refine step_ag m K c (by decide) (by apply Fin.ext; simp [fwd]) (by exact k0_off3_eq c) (by exact rfl) (by exact rfl) ?_
  refine BIBase.Entails.trans (turn_gather m K c) ?_
  iterate 31 refine step_wait m K c 3 31 31 (by decide) (by decide) (by decide) (by exact rfl) (by exact credit_out _ _) ?_
  refine BIBase.Entails.trans (turn_sent m K c) ?_
  iterate 31 refine step_wait m K c 0 31 31 (by decide) (by decide) (by decide) (by exact rfl) (by exact credit_part _ _) ?_
  refine BIBase.Entails.trans (turn_last m K c) ?_
  iterate 31 refine step_wait m K c 2 31 31 (by decide) (by decide) (by decide) (by exact rfl) (by exact credit_out _ _) ?_
  unfold Wp; rw [wp_ret]
  exact finish m K c

end Cert.KernelIdealProof
-- ==== Proof.Point.lean ====
/-
The kernel at the one grid point, as the pipeline asks for it.
-/
module

public import proofs.«01_k».proof.Proof.Body
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet bigSep_rangeSet_head bigSep_rangeSet_last bigSep_rangeSet_empty rangeSet_univ)

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (c : Dev nD)

/-! ## The one grid point -/

/-- The memory at launch: the contents `m`, every semaphore counter zero. -/
def s₀ : MemSt nD τ sig (Elt F) := ⟨m, fun _ => 0, ρ⟩

/-- One unit owed to each other device's barrier, and this place's signal duty there. -/
def sigToks : sProp 𝕄 := bigSep Finset.univ fun j => dutyTok ER (barCell (fwd c j)) 0 j
/-- The credits of the receives on array `q`. -/
def creds (q : Fin 4) : sProp 𝕄 := bigSep Finset.univ fun j => cred (tallyAt (dcell q c j) () N)
/-- A device's positions in its cells, and the duties it is to pay. -/
def linear : sProp 𝕄 :=
  iprop(atPos ER (barCell c) 0 ∅ 0 ∗ ats c 0 ∗ ats c 1 ∗ ats c 2 ∗ ats c 3 ∗ toksOf c 0 1 ∗ toksOf c 2 3 ∗ sigToks c)
/-- What a device's body starts from, beside its buffers. -/
def start : sProp 𝕄 := iprop((∃ K, ctx m K) ∗ linear c ∗ cred (tallyAt (barCell c) () 31) ∗ creds c 1 ∗ creds c 3)
/-- The two scratch buffers at some contents. -/
def scratch : sProp 𝕄 := iprop((∃ X, owns (c : Thread nD τ) pM fullShare X) ∗ (∃ X, owns (c : Thread nD τ) rM fullShare X))
/-- A device's four arrays of DMA semaphores at zero. -/
def dmaZero : sProp 𝕄 :=
  iprop((bigSep Finset.univ fun j => semVal (dcell 0 c j) 0) ∗ (bigSep Finset.univ fun j => semVal (dcell 1 c j) 0)
    ∗ (bigSep Finset.univ fun j => semVal (dcell 2 c j) 0) ∗ (bigSep Finset.univ fun j => semVal (dcell 3 c j) 0))

/-- Before the point, -/
def Φ₀ : sProp 𝕄 := iprop(start m c ∗ scratch c)
/-- and after it. -/
def Φ₁ : sProp 𝕄 := iprop(scratch c ∗ semVal (barCell c) 0 ∗ dmaZero c)

/-- The launch's data: both argument windows are left as staged, the result window holds every device's rows. -/
def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => xB m c
    | ⟨2, _⟩ => outAll m
  Φ t := match t with
    | ⟨0, _⟩ => Φ₀ m c
    | ⟨_ + 1, _⟩ => Φ₁ c
  q _ := fullShare
  owed t := match t with
    | ⟨0, _⟩ => owe c 0 0 0
    | ⟨_ + 1, _⟩ => 0

/-- Owning a whole buffer is holding it at its contents. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The slots counted the other way round. -/
theorem slots_rev : (bigSep Finset.univ fun j => (slotAny c j : sProp 𝕄)) ⊢ bigSep Finset.univ fun j => slotAny c (rev j) :=
  Entails.of_eq (bigSep_univ_equiv revE fun j => (slotAny c j : sProp 𝕄))

/-- The body's start from what the launch gives. -/
theorem start_run (O : sProp 𝕄) (hO : O ⊢ owing c (owe c 0 0 0)) :
    iprop(Φ₀ m c ∗ O ∗ args m c ∗ ∃ X, owns (c : Thread nD τ) oM fullShare X) ⊢ iprop(∃ K, ctx m K ∗ sigSt c 0 ∗ R0 m c) := by
  unfold Φ₀ start linear scratch sigSt R0 sigToks creds waits
  rw [rest_all]
  simp only [bigSep_sep']
  iintro ⟨⟨⟨⟨%K, #Hc⟩, ⟨Hat, P0, P1, P2, P3, T1, T2, St⟩, Hcr, C1, C3⟩, Hp, Hr⟩, HO, Ha, Ho⟩
  ihave HO := hO $$ HO
  ihave Hs := (slots_split c) $$ Hr
  ihave Ho := (out_split c) $$ Ho
  icases Ho with ⟨Hoc, Hof⟩
  iexists K
  isplitr; · iexact Hc
  isplitl [HO St Hs Hof]
  · isplitl [HO]; · iexact HO
    isplitl [St]; · iexact St
    isplitl [Hs]
    · iapply (slots_rev c); iexact Hs
    iexact Hof
  isplitl [Ha]; · iexact Ha
  isplitl [Hp]; · iexact Hp
  isplitl [Hoc]; · iexact Hoc
  isplitl [Hat Hcr]
  · isplitl [Hat]; · iexact Hat
    iexact Hcr
  isplitl [T1]; · iexact T1
  isplitl [T2]; · iexact T2
  isplitl [C1 P1]
  · isplitl [C1]; · iexact C1
    unfold ats; iexact P1
  isplitl [C3 P3]
  · isplitl [C3]; · iexact C3
    unfold ats; iexact P3
  isplitl [P0]; · iexact P0
  iexact P2

/-- Before the body the first staging buffer holds the first argument, -/
theorem before_0 (d) : (dats m 0 c).before (0 : Fin 3) t0_0 d = xA m c := by
  unfold Dat.before; rw [if_pos (fetch0_0 t0_0)]; rfl
/-- and the second the second. -/
theorem before_1 (d) : (dats m 0 c).before (1 : Fin 3) t0_0 d = xB m c := by
  unfold Dat.before; rw [if_pos (fetch0_1 t0_0)]; rfl

/-- What the body is given, -/
def bodyPre : sProp 𝕄 :=
  iprop(Φ₀ m c ∗ (dats m 0 c).owesAt () (t0_0 : Fin cfg0.N).castSucc
    ∗ (∃ d, owns (c : Thread nD τ) aM fullShare ((dats m 0 c).before (0 : Fin 3) t0_0 d))
    ∗ (∃ d, owns (c : Thread nD τ) bM fullShare ((dats m 0 c).before (1 : Fin 3) t0_0 d))
    ∗ (∃ d, owns (c : Thread nD τ) oM fullShare ((dats m 0 c).before (2 : Fin 3) t0_0 d)))
/-- and what it must leave. -/
def bodyPost : sProp 𝕄 :=
  iprop(Φ₁ c ∗ (dats m 0 c).owesAt () (t0_0 : Fin cfg0.N).succ
    ∗ owns (c : Thread nD τ) aM fullShare (xA m c) ∗ owns (c : Thread nD τ) bM fullShare (xB m c) ∗ owns (c : Thread nD τ) oM fullShare (outAll m))

/-- What the body is given is where its first step starts, -/
theorem body_start : bodyPre m c ⊢ iprop(∃ K, ctx m K ∗ sigSt c 0 ∗ R0 m c) := by
  refine BIBase.Entails.trans ?_ (start_run m c ((dats m 0 c).owesAt () (t0_0 : Fin cfg0.N).castSucc) ?_)
  · unfold bodyPre args
    iintro ⟨HΦ, HO, ⟨%d0, Ha⟩, ⟨%d1, Hb⟩, ⟨%d2, Ho⟩⟩
    rw [before_0, before_1]
    isplitl [HΦ]; · iexact HΦ
    isplitl [HO]; · iexact HO
    isplitl [Ha Hb]
    · isplitl [Ha]; · iexact Ha
      iexact Hb
    iexists _; iexact Ho
  · unfold Dat.owesAt Pipeline.owesWithin owing
    rw [show (dats m 0 c).owed (t0_0 : Fin cfg0.N).castSucc = owe c 0 0 0 from rfl]
    iintro ⟨%W, %hW, HO⟩
    iexists W; iexact HO

/-- and where its last step ends is what it must leave. -/
theorem body_end : fin m c ⊢ bodyPost m c := by
  unfold fin bodyPost Φ₁ scratch dmaZero args Dat.owesAt Pipeline.owesWithin owing
  rw [show (dats m 0 c).owed (t0_0 : Fin cfg0.N).succ = 0 from rfl]
  iintro ⟨⟨Ha, Hb⟩, Ho, Hp, Hr, HB, H0, H1, H2, H3, %W, HO⟩
  isplitl [Hp Hr HB H0 H1 H2 H3]
  · isplitl [Hp Hr]
    · isplitl [Hp]; · iexact Hp
      iexact Hr
    isplitl [HB]; · iexact HB
    isplitl [H0]; · iexact H0
    isplitl [H1]; · iexact H1
    isplitl [H2]; · iexact H2
    iexact H3
  isplitl [HO]
  · iexists W
    isplitr; · ipureintro; exact fun _ _ => Or.inl trivial
    iexact HO
  isplitl [Ha]; · iexact Ha
  isplitl [Hb]; · iexact Hb
  iexact Ho

set_option maxRecDepth 100000 in
/-- The pipeline's obligation: the kernel's body at the one point. -/
theorem body_obligation : BodyObligation (dats (F := F) m 0 c) (defs₀ (F := F)) 𝒱₀ () Set.univ := fun t => by
  rw [fin_N0 t]
  rw [bigSep_W0, bigSep_W0]
  show bodyPre m c ⊢ Wp c (cc0_body (F := F) aM (Memref.isWhole_whole _) bM (Memref.isWhole_whole _) oM (Memref.isWhole_whole _)
    pM (Memref.isWhole_whole _) rM (Memref.isWhole_whole _) cc0_scratch2 cc0_scratch3 cc0_scratch4 cc0_scratch5) (fun _ => bodyPost m c)
  refine BIBase.Entails.trans (body_start m c) ?_
  iintro ⟨%K, H⟩
  iapply (wp_mono frame (wpE (defs₀ (F := F)) 𝒱₀ (c : Thread nD τ) none) Set.univ fun _ => body_end m c)
  iapply (run_body m K c)
  iexact H

end Cert.KernelIdealProof
-- ==== Proof.Launch.lean ====
/-
The launch: the semaphores' rounds and duties are set up for all the devices at once and each device is dealt the
duties it pays; then the kernel runs at its one point on every device.
-/
module

public import proofs.«01_k».proof.Proof.Point
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet bigSep_rangeSet_head bigSep_rangeSet_last bigSep_rangeSet_empty rangeSet_univ)

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × Option (Fin 4 × Fin 31) → ℕ) (c : Dev nD)

/-! ## The cells -/

/-- The kernel's own semaphores. -/
abbrev osem (k : Fin 4 × Fin 31) : SemLoc sig := .dma (dsem k.1 k.2)

/-- The four arrays are scoped, all different, and none of them a staging semaphore. -/
theorem ownSemFacts : Pipeline.OwnSemFacts cfg0.spec osem where
  isScoped := by decide
  inj := fun ⟨q, j⟩ ⟨q', j'⟩ h => by
    obtain ⟨rfl, rfl⟩ := dsem_inj (SemLoc.dma.inj h); rfl
  disj := fun ⟨q, j⟩ w s h => by
    have h3 : ∀ (w : Fin 3) (s : Fin (cfg0.spec w).nbuf), ((cfg0.spec w).sem s).val < 3 := by decide
    have := h3 w s
    rw [← SemLoc.dma.inj h] at this
    simp only [dsem] at this
    omega

/-- Every window is held in full. -/
theorem share_eq (w : Fin cfg0.W) : (dats m 0 c).share w = fullShare := by unfold Dat.share; split <;> rfl

/-- Numbers of different cells name different semaphores. -/
theorem csem_injective : Function.Injective csem := by
  rintro (_ | ⟨q, j⟩) (_ | ⟨q', j'⟩) h
  · rfl
  · cases h
  · cases h
  · obtain ⟨rfl, rfl⟩ := dsem_inj (SemLoc.dma.inj h); rfl
/-- Equal cells are of one device and one semaphore. -/
theorem cell_device {a b : Dev nD} {x y : SemLoc sig} (h : (((a : Thread nD τ), x) : GSem nD τ sig) = ((b : Thread nD τ), y)) : a = b ∧ x = y :=
  ⟨congrArg (fun g : GSem nD τ sig => g.1.1) h, congrArg Prod.snd h⟩
/-- The cells of all devices are different. -/
theorem kcell_injective : Function.Injective (kcell : Dev nD × Option (Fin 4 × Fin 31) → GSem nD τ sig) := by
  rintro ⟨c, k⟩ ⟨c', k'⟩ h
  obtain ⟨h1, h2⟩ := cell_device h
  exact Prod.ext h1 (csem_injective h2)
/-- All the cells of all the devices. -/
def allCells : Finset (GSem nD τ sig) := Finset.univ.map ⟨kcell, kcell_injective⟩

/-- The duties of a device's cells: 31 of its barrier, one of each DMA cell. -/
abbrev tokOf (x : Dev nD × Option (Fin 4) × Fin 31) : GSem nD τ sig × ℕ × Fin 31 := match x.2.1 with
  | none => (barCell x.1, 0, x.2.2)
  | some q => (dcell q x.1 x.2.2, 0, 0)
/-- The duties are different. -/
theorem tokOf_injective : Function.Injective tokOf := by
  rintro ⟨c, o, j⟩ ⟨c', o', j'⟩ h
  rcases o with _ | q <;> rcases o' with _ | q'
  · obtain ⟨rfl, -⟩ := cell_device (congrArg Prod.fst h)
    have := congrArg (fun x : GSem nD τ sig × ℕ × Fin 31 => x.2.2) h
    simp only at this; subst this; rfl
  · obtain ⟨-, h2⟩ := cell_device (congrArg Prod.fst h); cases h2
  · obtain ⟨-, h2⟩ := cell_device (congrArg Prod.fst h); cases h2
  · obtain ⟨rfl, h2⟩ := cell_device (congrArg Prod.fst h)
    obtain ⟨rfl, rfl⟩ := dsem_inj (SemLoc.dma.inj h2); rfl
/-- All the duties of all the cells. -/
def allToks : Finset (GSem nD τ sig × ℕ × Fin 31) := Finset.univ.map ⟨tokOf, tokOf_injective⟩

/-- The algebra at the launch: the pipeline's own, and every cell and duty at its start. -/
def u₀ : UU :=
  (initOf (Pipeline.cells cfgs cellOf_inj) (Pipeline.launchToks cfgs cellOf_inj), initOf allCells allToks)

/-! ## The ghost state -/

/-- The duties of array `q`'s cells on a device. -/
def dToks (q : Fin 4) : sProp 𝕄 := bigSep Finset.univ fun j => dutyTok ER (dcell q c j) 0 0
/-- The duty tokens of device `c`'s own cells. -/
def toks : sProp 𝕄 :=
  iprop((bigSep Finset.univ fun j => dutyTok ER (barCell c) 0 j) ∗ dToks c 0 ∗ dToks c 1 ∗ dToks c 2 ∗ dToks c 3)

/-- What the launch deals device `c`, -/
def G : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ toks c)

/-- Every cell's invariant and its round. -/
def records : sProp 𝕄 :=
  iprop((bigSep Finset.univ fun ck => cellInv ER (Rd m) (K ck) (kcell ck))
    ∗ bigSep Finset.univ fun ck : Dev nD × Option (Fin 4 × Fin 31) => reached ER (kcell ck) 0)
instance records_persistent : BI.Persistent (records m K) := by unfold records; infer_instance

/-- and what is made of it. -/
def G' : sProp 𝕄 := iprop(∃ K, records m K ∗ linear c)

/-- A separating conjunction over the four arrays, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A separating conjunction over a device's cells. -/
theorem bigSep_cells (Φ : Option (Fin 4 × Fin 31) → sProp 𝕄) : bigSep Finset.univ Φ
    = iprop(Φ none ∗ (bigSep Finset.univ fun j => Φ (some (0, j))) ∗ (bigSep Finset.univ fun j => Φ (some (1, j)))
      ∗ (bigSep Finset.univ fun j => Φ (some (2, j))) ∗ (bigSep Finset.univ fun j => Φ (some (3, j)))) := by
  rw [bigSep_opt, bigSep_univ_prod, bigSep_fin4]

/-- The cells and duties at their start, dealt to the devices they belong to. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks dToks; rw [bigSep_univ_prod, bigSep_opt, bigSep_fin4]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the four arrays, -/
theorem ownSems0_eq : (Pipeline.ownSems0 (Ix := Unit) (Name := ℕ) (U := UU) (Lvl := ℕ) (Val := Elt F) (τ := τ) osem c : sProp 𝕄) = dmaZero c := by
  unfold Pipeline.ownSems0 dmaZero; rw [bigSep_univ_prod, bigSep_fin4]
/-- the barrier semaphore the one that is not. -/
theorem unscopedSems0_eq : (unscopedSems0 c : sProp 𝕄) = semVal (barCell c) 0 := by
  unfold unscopedSems0; rw [bigSep_eq_bigSepL_of_eq [SemLoc.reg barS] (by decide) (by decide)]; rfl

/-- A device's semaphores at zero are its cells at zero. -/
theorem sems0_eq : iprop(Pipeline.ownSems0 (Ix := Unit) (Name := ℕ) (U := UU) (Lvl := ℕ) (Val := Elt F) (τ := τ) osem c ∗ unscopedSems0 c)
    ⊢ (bigSep Finset.univ fun k => semVal (kcell (c, k)) 0 : sProp 𝕄) := by
  rw [ownSems0_eq, unscopedSems0_eq, bigSep_cells]
  unfold dmaZero
  iintro ⟨H, HB⟩
  isplitl [HB]; · iexact HB
  iexact H

/-- A device's cells' invariants are allocated. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks : sProp 𝕄 := iprop(toksOf c 0 1 ∗ toksOf c 2 3 ∗ sigToks c)

/-- Dealing each place's token that many devices on. -/
theorem deal (Φ : Dev nD → Fin 31 → sProp 𝕄) :
    (bigSep Finset.univ fun c => bigSep Finset.univ fun j => Φ c j) = bigSep Finset.univ fun c => bigSep Finset.univ fun j => Φ (fwd c j) j := by
  rw [bigSep_univ_comm]
  rw [bigSep_univ_comm (fun c j => Φ (fwd c j) j)]
  exact bigSep_congr fun j _ => bigSep_univ_equiv (around j) fun c => Φ c j

/-- The duties of each device's own cells, dealt instead to the devices that perform them. -/
theorem toks_around : (bigSep Finset.univ fun c : Dev nD => (toks c : sProp 𝕄)) ⊢ bigSep Finset.univ fun c : Dev nD => payToks c := by
  unfold toks payToks toksOf sigToks dToks
  simp only [bigSep_sep']
  rw [deal fun c j => (dutyTok ER (barCell c) 0 j : sProp 𝕄), deal fun c j => (dutyTok ER (dcell 1 c j) 0 0 : sProp 𝕄),
    deal fun c j => (dutyTok ER (dcell 3 c j) 0 0 : sProp 𝕄)]
  iintro ⟨HB, H0, H1, H2, H3⟩
  isplitl [H0 H1]
  · isplitl [H0]; · iexact H0
    iexact H1
  isplitl [H2 H3]
  · isplitl [H2]; · iexact H2
    iexact H3
  iexact HB

/-- A device's places in its cells' rounds and the duties it performs are its own part of the set-up. -/
theorem linear_intro : iprop((bigSep Finset.univ fun k => (atPos ER (kcell (c, k)) 0 ∅ 0 : sProp 𝕄)) ∗ payToks c) ⊢ linear c := by
  rw [bigSep_cells]
  unfold payToks linear ats
  iintro ⟨⟨HB, P0, P1, P2, P3⟩, T1, T2, St⟩
  isplitl [HB]; · iexact HB
  isplitl [P0]; · iexact P0
  isplitl [P1]; · iexact P1
  isplitl [P2]; · iexact P2
  isplitl [P3]; · iexact P3
  isplitl [T1]; · iexact T1
  isplitl [T2]; · iexact T2
  iexact St

/-- With what all devices share they are what it starts from. -/
theorem ghost_intro : iprop(records m K ∗ linear c) ⊢ G' m c := by
  unfold G'; iintro H; iexists K; iexact H

/-- Opened cells, places and duties of all devices, regrouped into what each device starts from. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 4 × Fin 31) => iprop(∃ κ : ℕ, cellInv ER (Rd m) κ (kcell ck))),
    bigSep_congr (s := Finset.univ) (fun (c : Dev nD) _ => bigSep_sep' Finset.univ (fun k : Option (Fin 4 × Fin 31) => (atPos ER (kcell (c, k)) 0 ∅ 0 : sProp 𝕄)) (fun k => reached ER (kcell (c, k)) 0)),
    bigSep_sep', ← bigSep_univ_prod (fun ck : Dev nD × Option (Fin 4 × Fin 31) => (reached ER (kcell ck) 0 : sProp 𝕄))]
  iintro ⟨HI, ⟨Hat, #HR⟩, Htok⟩
  ihave HK := (BI.bigSep_exists_pi Finset.univ (fun (ck : Dev nD × Option (Fin 4 × Fin 31)) (κ : ℕ) => (cellInv ER (Rd m) κ (kcell ck) : sProp 𝕄))) $$ HI
  icases HK with ⟨%K, #HI⟩
  ihave Htk := (toks_around (F := F)) $$ Htok
  iapply (show iprop(records m K ∗ bigSep Finset.univ fun c : Dev nD => (linear c : sProp 𝕄)) ⊢ bigSep Finset.univ (G' m) from
    BIBase.Entails.trans (sep_mono_left (BI.bigSep_of_persistent Finset.univ (records m K)))
      (by rw [← bigSep_sep']; exact bigSep_mono fun c _ => ghost_intro m K c))
  isplitr
  · unfold records; isplitl; · iexact HI
    iexact HR
  · iapply (show iprop((bigSep Finset.univ fun c : Dev nD => bigSep Finset.univ fun k => (atPos ER (kcell (c, k)) 0 ∅ 0 : sProp 𝕄)) ∗ bigSep Finset.univ fun c : Dev nD => payToks c)
      ⊢ bigSep Finset.univ fun c : Dev nD => (linear c : sProp 𝕄) from by
        rw [← bigSep_sep']; exact bigSep_mono fun c _ => linear_intro c)
    isplitl [Hat]; · iexact Hat
    iexact Htk

/-- All the devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Summed over the devices, what is owed to the cells of one kind. -/
theorem sum_around (g : Dev nD → Fin 31 → GSem nD τ sig) (n : ℕ) (x : GSem nD τ sig) :
    ∑ d : Dev nD, (∑ j ∈ rangeSet 31 0 31, (tallyAt (g (fwd d j) j) () n : Tal)) x ()
      = ∑ d : Dev nD, ∑ j : Fin 31, if x = g d j then n else 0 := by
  have h (d : Dev nD) : (∑ j ∈ rangeSet 31 0 31, (tallyAt (g (fwd d j) j) () n : Tal)) x () = ∑ j : Fin 31, if x = g (fwd d j) j then n else 0 := by
    rw [rangeSet_univ, Finset.sum_apply, Finsupp.finset_sum_apply]
    refine Finset.sum_congr rfl fun j _ => ?_
    rw [tallyAt_apply]; simp only [and_true]
  rw [Finset.sum_congr rfl fun d _ => h d, Finset.sum_comm, Finset.sum_comm (s := (Finset.univ : Finset (Dev nD))) (t := (Finset.univ : Finset (Fin 31)))]
  refine Finset.sum_congr rfl fun j _ => ?_
  exact Equiv.sum_comp (around j) fun d => if x = g d j then n else 0

/-- What all devices together owe to a semaphore, by its kind. -/
theorem owed_sum (x : GSem nD τ sig) : ∑ d : Dev nD, owe d 0 0 0 x ()
    = (∑ d : Dev nD, ∑ j : Fin 31, if x = barCell d then 1 else 0) + (∑ d : Dev nD, ∑ j : Fin 31, if x = dcell 1 d j then N else 0)
      + ∑ d : Dev nD, ∑ j : Fin 31, if x = dcell 3 d j then N else 0 := by
  unfold owe
  simp only [Pi.add_apply, Finsupp.add_apply, Finset.sum_add_distrib]
  rw [sum_around (fun d _ => barCell d), sum_around (fun d j => dcell 1 d j), sum_around (fun d j => dcell 3 d j)]

/-- A barrier is no copy semaphore. -/
theorem bar_ne_dma (a d : Dev nD) (q : Fin 4) (j : Fin 31) : barCell a ≠ dcell q d j := fun h => by
  obtain ⟨-, h2⟩ := cell_device h; cases h2
/-- Copy semaphores are equal when array, device and place are, -/
theorem dcell_iff (a d : Dev nD) (q q' : Fin 4) (j j' : Fin 31) : Iff (dcell q a j = dcell q' d j') (q = q' ∧ a = d ∧ j = j') :=
  ⟨fun h => by
    obtain ⟨h1, h2⟩ := cell_device h
    obtain ⟨h3, h4⟩ := dsem_inj (SemLoc.dma.inj h2)
    exact ⟨h3, h1, h4⟩, fun ⟨h1, h2, h3⟩ => by subst h1; subst h2; subst h3; rfl⟩
/-- barriers when the device is. -/
theorem bar_iff (a d : Dev nD) : Iff (barCell a = barCell d) (a = d) := ⟨fun h => (cell_device h).1, fun h => by subst h; rfl⟩

/-- A sum over devices and places of what one device and place contribute. -/
theorem sum_one (a : Dev nD) (j : Fin 31) (n : ℕ) : (∑ d : Dev nD, ∑ j' : Fin 31, if a = d ∧ j = j' then n else 0) = n := by
  rw [Finset.sum_eq_single a, Finset.sum_eq_single j]
  · simp
  · intro b _ hb; rw [if_neg fun h => hb h.2.symm]
  · intro h; exact absurd (Finset.mem_univ _) h
  · intro b _ hb; exact Finset.sum_eq_zero fun j' _ => if_neg fun h => hb h.1.symm
  · intro h; exact absurd (Finset.mem_univ _) h

/-- A barrier is owed 31 signals, -/
theorem owed_bar : ∑ d : Dev nD, owe d 0 0 0 (barCell c) () = 31 := by
  rw [owed_sum]
  simp only [bar_ne_dma, if_false, Finset.sum_const_zero, add_zero, bar_iff, Finset.sum_const, Finset.card_univ, Fintype.card_fin, smul_eq_mul]
  simp
/-- a receive semaphore of the first exchange one copy, -/
theorem owed_rs (j : Fin 31) : ∑ d : Dev nD, owe d 0 0 0 (dcell 1 c j) () = N := by
  rw [owed_sum]
  simp only [(bar_ne_dma _ _ _ _).symm, dcell_iff, if_false, Finset.sum_const_zero, add_zero, zero_add, true_and,
    show ((1 : Fin 4) = 3) = False from by decide, false_and]
  exact sum_one c j N
/-- and one of the second exchange one copy. -/
theorem owed_ag (j : Fin 31) : ∑ d : Dev nD, owe d 0 0 0 (dcell 3 c j) () = N := by
  rw [owed_sum]
  simp only [(bar_ne_dma _ _ _ _).symm, dcell_iff, if_false, Finset.sum_const_zero, add_zero, zero_add, true_and,
    show ((3 : Fin 4) = 1) = False from by decide, false_and]
  exact sum_one c j N

/-- What a device owes at the start. -/
abbrev O₀ (c : Dev nD) : Tal := owe c 0 0 0

/-- A semaphore's credit at the launch is what the devices owe to it. -/
theorem launch_cell (g : GSem nD τ sig) {n : ℕ} (h : ∑ d : Dev nD, owe d 0 0 0 g () = n) :
    tallyOn g (launchCredit (Pipeline.owing O₀) 0 g) = (tallyAt g () n : Tal) := by
  unfold tallyAt; refine congrArg _ (Finsupp.ext fun u => ?_); cases u
  rw [Pipeline.launchCredit_owing, Finsupp.single_eq_same]; exact h

/-- A device's credit at the launch: for its barrier's 31 signals and for the copies it receives. -/
theorem creds_intro : (Pipeline.launchCred O₀ c : sProp 𝕄) ⊢ iprop(cred (tallyAt (barCell c) () 31) ∗ creds c 1 ∗ creds c 3) := by
  unfold Pipeline.launchCred creds
  refine BIBase.Entails.trans (bigSep_subset (t := Finset.univ.map ⟨csem, csem_injective⟩) (Finset.subset_univ _)) ?_
  rw [bigSep_map, bigSep_cells]
  have h0 : ∀ o : Option (Fin 4 × Fin 31), (⟨csem, csem_injective⟩ : Option (Fin 4 × Fin 31) ↪ SemLoc sig) o = csem o := fun _ => rfl
  simp only [h0]
  rw [launch_cell (barCell c) (owed_bar c)]
  simp only [launch_cell _ (owed_rs c _), launch_cell _ (owed_ag c _)]
  iintro ⟨HB, -, H1, -, H3⟩
  isplitl [HB]; · iexact HB
  isplitl [H1]; · iexact H1
  iexact H3

/-! ## The run -/

/-- What the launch gives a device is what the region starts from. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, #Hlev, Hcr, -, HG⟩
  ihave Hc := (creds_intro (F := F) c) $$ Hcr
  unfold G' records
  icases HG with ⟨%K, ⟨#HI, #HR⟩, Hl⟩
  imodintro
  unfold start ctx
  isplitl
  · isplitr
    · iexists K
      isplitr; · iexact HI
      isplitr; · iexact HR
      iexact Hlev
    isplitl [Hl]; · iexact Hl
    iexact Hc
  · iempintro

/-- A whole buffer at some contents. -/
theorem any_whole (b : Ref sig .tc) :
    (iprop(∃ X : b.ty.Contents (Elt F), owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
  simp only [owns_whole_eq]
  have h₁ : (iprop(∃ X : b.ty.Contents (Elt F), ∃ f : Buf (Elt F) ((c : Thread nD τ).loc b), ⌜f = X⌝ ∗ (((c : Thread nD τ).loc b) ↦{fullShare} f)) : sProp 𝕄)
      ⊢ iprop(∃ f : Buf (Elt F) ((c : Thread nD τ).loc b), ((c : Thread nD τ).loc b) ↦{fullShare} f) := by
    iintro ⟨%X, %f, -, H⟩; iexists f; iexact H
  have h₂ : (iprop(∃ f : Buf (Elt F) ((c : Thread nD τ).loc b), ((c : Thread nD τ).loc b) ↦{fullShare} f) : sProp 𝕄)
      ⊢ iprop(∃ X : b.ty.Contents (Elt F), ∃ f : Buf (Elt F) ((c : Thread nD τ).loc b), ⌜f = X⌝ ∗ (((c : Thread nD τ).loc b) ↦{fullShare} f)) := by
    iintro ⟨%f, H⟩; iexists f; iexists f
    isplitr; · ipureintro; rfl
    iexact H
  exact BI.equiv_iff.mp ⟨h₁, h₂⟩

/-- The scratch buffers are the scoped ones that are no staging buffer. -/
theorem scratch_eq : (scratch c : sProp 𝕄) = Pipeline.scopedRest cfg0.spec c := by
  rw [scopedRest0_eq, ← any_whole c cc0_scratch0, ← any_whole c cc0_scratch1]
  rfl

/-- With the scratch buffers it is what the body starts from. -/
theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  isplitl [Hs]; · iexact Hs
  iexact Hr

/-- What the body ends with gives the semaphores at zero and the scratch buffers back. -/
theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq, ← scratch_eq]
  unfold Φ₁
  iintro ⟨Hr, HB, HD⟩
  isplitl [HB]; · iexact HB
  isplitl [HD]; · iexact HD
  iexact Hr

/-- The staging copies' waits are ranked below everything owed. -/
theorem stage_waits : (levAts L lv : sProp 𝕄) ⊢ Pipeline.cellsWaits cfgs (dats m) () 0 c :=
  Pipeline.cellsWaits_intro cfgs (dats m) () 0 c fun w s t => by
    have h0 : lvOf (.dma ((cfg0.win w).sem s)) = 0 := by fin_cases w <;> fin_cases s <;> rfl
    rcases t with ⟨_ | _, ht⟩
    · exact mayWait_of c _ 0 0 0 (fun _ => by rw [h0]; decide) (fun _ => by rw [h0]; decide) (fun _ => by rw [h0]; decide)
    · show _ ⊢ MayWait _ _ () 0
      rw [MayWait_zero]; iintro -; iempintro

/-- What a window's array holds after the run. -/
def finalA (w : Fin cfg0.W) : Buf (Elt F) ((cfg0.win w).arr.view.loc (c : Thread nD τ)) := (dats m 0 c).arrAt w cfg0.N

/-- The arrays' contents after the run. -/
def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with the counters at zero every run on the 32 devices ends, with the arrays at `finalA` and the
    counters at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c => share_eq m c)
    (hdistinct := winFacts0.arr_inj)
    (O₀ := O₀) (howed₀ := fun _ => rfl) (howedN := fun _ => rfl)
    (L := L) (lv := lv) (hL := L_of_ne) (hwaits := fun c => stage_waits m c)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m ρ c) (hin := fun c => phi0_intro m c) (hout := fun c => phi1_exit m c)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held, -/
theorem finalA_0 : finalA m c (0 : Fin 3) = m ((c : Thread nD τ).loc main_arg0) :=
  (dats (F := F) m 0 c).arrAt_in (0 : Fin 3) rfl _
/-- the one and the other. -/
theorem finalA_1 : finalA m c (1 : Fin 3) = m ((c : Thread nD τ).loc main_arg1) :=
  (dats (F := F) m 0 c).arrAt_in (1 : Fin 3) rfl _

end Cert.KernelIdealProof
-- ==== Proof.Value.lean ====
/-
  The kernel's result in exact arithmetic. A device's partial sums are the product over its own 256
  places of the contracted axis; the 32 partial sums of a row, added in the order in which the device
  that owns the row adds them, are the product over all 8192 places; and the activation function is
  the reference's, operation by operation. So what every device ends with is the reference's result.
-/
module

public import proofs.«01_k».proof.Proof.Launch
public import proofs.«01_k».proof.Proof.Gen.ReferenceIdeal
public import Idealize.ShloMosaic.Lib.StackMember
public import Idealize.ShloMosaic.Lib.MatmulPlain
public import Mathlib.Algebra.BigOperators.Fin

@[expose] public section

noncomputable section

namespace Cert.KernelIdealProof

open Cert.KernelIdeal Cert.KernelIdeal.Gen

open Idealize.ShloMosaic Idealize.ShloMosaic.TcCoe Idealize.ShloMosaic.ValueIdx Idealize.SL.Sem
open scoped BigOperators

/-! ## The result array after the run -/

section AnyFloats

variable {F : FTy → Type} [FloatOps F] (m : (ℓ : Loc nD τ sig) → Buf (Elt F) ℓ) (ρ : Dev nD → PrngReg) (c : Dev nD)

/-- Every window is its whole array: place `i` of the first argument's block is the array's place `i`. -/
theorem blk_emb_0 (i : S512x256.Idx) : (win0_0.rect t0_0).emb i = i := by
  refine funext fun a => Fin.ext ?_
  match a with
  | ⟨0, _⟩ => show 0 * 512 + 1 * (i 0).val = (i 0).val; omega
  | ⟨1, _⟩ => show 0 * 256 + 1 * (i 1).val = (i 1).val; omega
/-- The same of the second argument's window, -/
theorem blk_emb_1 (i : S256x512.Idx) : (win0_1.rect t0_0).emb i = i := by
  refine funext fun a => Fin.ext ?_
  match a with
  | ⟨0, _⟩ => show 0 * 256 + 1 * (i 0).val = (i 0).val; omega
  | ⟨1, _⟩ => show 0 * 512 + 1 * (i 1).val = (i 1).val; omega
/-- and of the result's. -/
theorem blk_emb_2 (i : S512x512.Idx) : (win0_2.rect t0_0).emb i = i := by
  refine funext fun a => Fin.ext ?_
  match a with
  | ⟨0, _⟩ => show 0 * 512 + 1 * (i 0).val = (i 0).val; omega
  | ⟨1, _⟩ => show 0 * 512 + 1 * (i 1).val = (i 1).val; omega

/-- What the body reads of the first argument is the argument, -/
theorem xA_eq : xA m c = m ((c : Thread nD τ).loc main_arg0) :=
  funext fun i => congrArg (m ((c : Thread nD τ).loc main_arg0)) (blk_emb_0 i)
/-- and of the second. -/
theorem xB_eq : xB m c = m ((c : Thread nD τ).loc main_arg1) :=
  funext fun i => congrArg (m ((c : Thread nD τ).loc main_arg1)) (blk_emb_1 i)

/-- After the run the result array holds, on every device, every device's rows. -/
theorem finalA_2 : finalA m c (2 : Fin 3) = outAll m := by
  refine (dats (F := F) m 0 c).arrAt_eq_of_cover (2 : Fin 3) (outAll m) (fun t _ => ?_) fun i => ⟨t0_0, flush0_2 _, ?_⟩
  · obtain rfl := fin_N0 t
    exact funext fun i => (congrArg (outAll m) (blk_emb_2 i)).symm
  · exact Finset.mem_map.mpr ⟨i, Finset.mem_univ _, blk_emb_2 i⟩

/-- The run with its arguments and its result: the arguments unchanged, the result every device's rows
    together, every semaphore at zero. -/
theorem run_result : θ_run (defs (F := F)) (onTc (τ := τ) (main (F := F))) ⟨m, fun _ => 0, ρ⟩ (fun r => (∀ c : Dev nD,
      r.2.mem ((c.tc : Thread nD τ).loc main_v1) = outAll m
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h =>
      ⟨fun c => ⟨(h.1 c 2).trans (finalA_2 m c), (h.1 c 0).trans (finalA_0 m c), (h.1 c 1).trans (finalA_1 m c)⟩, h.2⟩)
    (run_main m ρ)

end AnyFloats

/-! ## The sum -/

variable (m : (ℓ : Loc nD τ sig) → Buf (Elt Ideal) ℓ) (c : Dev nD)

/-- The block a device holds of the first factor, as an array of extended reals. -/
def blkA : FVec Ideal S512x256 .f32 := xA m c
/-- And of the second factor. -/
def blkB : FVec Ideal S256x512 .f32 := xB m c

/-- A place of a device's partial product is the sum over its 256 places of the contracted axis. -/
theorem part_apply (p q : Fin 512) : part m c (ix2 p q)
    = ∑ k : Fin 256, blkA m c (ix2 p k) * blkB m c (ix2 k q) := by
  have hd : dot_S512x256_S256x512_S512x512_1_0_0_1_n_n = DotDims.plain 512 256 512 := rfl
  show k0_pay1 (F := Ideal) (blkA m c) (blkB m c) (ix2 p q) = _
  unfold k0_pay1
  simp only [shapeCast_self]
  unfold matmul
  rw [hd, Ideal.matmul_plain_apply]
  show Ideal.ofBits .f32 0x00000000#32 + _ = _
  rw [Ideal.ofBits_zero_f32, zero_add]

/-- A group of rows laid in a slot and read back is the group. -/
theorem slot_back {α : Type} (X : S16x512.Idx → α) : shapeCast S16x512
    (fun i => X ((Shape.reshapeEquiv squeezes_S1x16x512_S16x512.numel_eq).symm i)) shapeCasts_S1x16x512_S16x512 = X := by
  funext y
  exact congrArg X (Equiv.symm_apply_apply (Shape.reshapeEquiv squeezes_S1x16x512_S16x512.numel_eq) y)

/-- A device's rows of the sum, after `k` slots: its own partial rows and those of the devices before it. -/
theorem zsum_apply (k : ℕ) (y : S16x512.Idx) : zsum m c k y
    = rowsOf (part m c) c y + ∑ j ∈ Finset.range k, rowsOf (part m (bwd c ⟨j % 31, Nat.mod_lt _ (by decide)⟩)) c y := by
  induction k with
  | zero => rw [Finset.sum_range_zero, add_zero]; rfl
  | succ k ih =>
    have hs : shapeCast S16x512 (slotV m c ⟨k % 31, Nat.mod_lt _ (by decide)⟩) shapeCasts_S1x16x512_S16x512
        = rowsOf (part m (bwd c ⟨k % 31, Nat.mod_lt _ (by decide)⟩)) c := by
      unfold slotV; exact slot_back _
    have hz : zsum m c (k + 1) y = zsum m c k y
        + (shapeCast S16x512 (slotV m c ⟨k % 31, Nat.mod_lt _ (by decide)⟩) shapeCasts_S1x16x512_S16x512 : FVec Ideal S16x512 .f32) y := rfl
    rw [hz, hs, ih, Finset.sum_range_succ, add_assoc]

/-- After all 31, the partial rows of all 32 devices. -/
theorem zsum_all (y : S16x512.Idx) : zsum m c 31 y = ∑ d : Dev nD, rowsOf (part m d) c y := by
  rw [zsum_apply, ← Equiv.sum_comp (devsB c), Fintype.sum_option, Finset.sum_range]
  simp only [devsB_none, devsB_some]
  refine congrArg _ (Finset.sum_congr rfl fun j _ => ?_)
  have e : (⟨j.val % 31, Nat.mod_lt _ (by decide)⟩ : Fin 31) = j := Fin.ext (Nat.mod_eq_of_lt j.isLt)
  rw [e]

/-! ## Against the reference -/

variable (A : FVec Ideal ⟨2, ![512, 8192]⟩ .f32) (B : FVec Ideal ⟨2, ![8192, 512]⟩ .f32)

/-- The reference's product. -/
def prod : FVec Ideal ⟨2, ![512, 512]⟩ .f32 := Host.dotGeneral (DotDims.plain 512 8192 512) none A B

/-- A sum over 8192 places is the sum over 32 blocks of the sums over a block's 256. -/
theorem sum_blocks (f : Fin 8192 → Ideal .f32) :
    ∑ k : Fin 8192, f k = ∑ d : Fin 32, ∑ k : Fin 256, f ⟨d.val * 256 + k.val, by omega⟩ := by
  rw [← Fintype.sum_prod_type', ← Equiv.sum_comp (finProdFinEquiv : Fin 32 × Fin 256 ≃ Fin 8192)]
  refine Finset.sum_congr rfl fun x _ => congrArg f (Fin.ext ?_)
  show x.2.val + 256 * x.1.val = x.1.val * 256 + x.2.val
  omega

/-- The first factor is cut in 32 blocks of columns, -/
theorem tilesA : Layout.Tiles ⟨2, ![512, 256]⟩ ⟨2, ![512, 8192]⟩ 1 32 := by decide
/-- the second in 32 blocks of rows. -/
theorem tilesB : Layout.Tiles ⟨2, ![256, 512]⟩ ⟨2, ![8192, 512]⟩ 0 32 := by decide

variable (hA : ∀ d : Dev nD, blkA m d = Layout.block ⟨2, ![512, 256]⟩ ⟨2, ![512, 8192]⟩ 1 32 d A tilesA)
  (hB : ∀ d : Dev nD, blkB m d = Layout.block ⟨2, ![256, 512]⟩ ⟨2, ![8192, 512]⟩ 0 32 d B tilesB)

include hA hB in
/-- The devices' partial products of the blocks they hold add up to the reference's product. -/
theorem parts_prod (i : S512x512.Idx) : ∑ d : Dev nD, part m d i = prod A B i := by
  obtain ⟨p, q, rfl⟩ : ∃ p q, i = ix2 p q := ⟨i 0, i 1, eq_ix2 i⟩
  unfold prod
  rw [StackMember.dotGeneral_plain_apply, sum_blocks]
  refine Finset.sum_congr rfl fun d _ => ?_
  rw [part_apply]
  refine Finset.sum_congr rfl fun k _ => ?_
  rw [hA, hB, Layout.block_apply, Layout.block_apply]
  congr 2
  · refine funext fun a => Fin.ext ?_
    match a with
    | ⟨0, _⟩ => rfl
    | ⟨1, _⟩ => rfl
  · refine funext fun a => Fin.ext ?_
    match a with
    | ⟨0, _⟩ => rfl
    | ⟨1, _⟩ => rfl

include hA hB in
/-- So a device's rows of the sum are its rows of the reference's product. -/
theorem zsum_prod : zsum m c 31 = rowsOf (prod A B) c := funext fun y => by
  rw [zsum_all]; exact parts_prod m A B hA hB _

/-- The reference's activation of an array. -/
def act (z : FVec Ideal ⟨2, ![512, 512]⟩ .f32) : FVec Ideal ⟨2, ![512, 512]⟩ .f32 := fun i =>
  Ideal.ofBits .f32 0x3F000000#32 * z i * (Ideal.ofBits .f32 0x3F800000#32
    + FloatOps.hostUnary (F := Ideal) (φ := .f32) .tanh (Ideal.ofBits .f32 0x3F4C422A#32 * (z i + Ideal.ofBits .f32 0x3D372713#32 * z i * z i * z i)))

include hA hB in
/-- What every device ends with is the reference's activation of the reference's product. -/
theorem outAll_eq : outAll m = act (prod A B) := by
  funext i
  obtain ⟨d, -, hd⟩ := Finset.mem_biUnion.mp (rows_cover.symm ▸ Finset.mem_univ i)
  obtain ⟨y, -, rfl⟩ := Finset.mem_map.mp ((Rect.map_emb_univ (rowRect d)).symm ▸ hd)
  refine (congrFun (rowsOf_outAll m d) y).trans ?_
  unfold gout
  rw [zsum_prod m d A B hA hB]
  rfl

end Cert.KernelIdealProof

end
-- ==== Proof.Same.lean ====
/-
  The program and its idealization are one text, printed twice: no operation was rewritten. Here the
  two printed bodies, body tables and main programs are shown equal, over any floats, so that the run
  proved of the idealization (Launch.lean and Value.lean, over any floats) is the program's own run too.
-/
module

public import proofs.«01_k».proof.Proof.Value
public import proofs.«01_k».proof.Proof.Gen.Kernel

@[expose] public section

noncomputable section

namespace Cert.SameProgram

open Idealize.ShloMosaic Idealize.SL.Sem

attribute [local instance] Cert.Kernel.Gen.facts Cert.KernelIdeal.Gen.facts

variable {F : FTy → Type} [FloatOps F]

set_option maxRecDepth 100000 in
/-- The kernel's body is the idealized kernel's body, -/
theorem body_same : @Cert.Kernel.cc0_body F _ _ = @Cert.KernelIdeal.cc0_body F _ _ := rfl

/-- so the two tables of bodies are equal: each has the one entry, -/
theorem table_same : @Cert.Kernel.defs₀ F _ _ = @Cert.KernelIdeal.defs₀ F _ _ := by
  unfold Cert.Kernel.defs₀ Cert.KernelIdeal.defs₀
  congr 1
  funext l x
  match l, x with
  | ⟨0, _⟩, (_, _) => rw [body_same]

/-- and so are the tables with the pipelines. -/
theorem defs_same : @Cert.Kernel.defs F _ _ = @Cert.KernelIdeal.defs F _ _ :=
  congrArg (Pipeline.defs _) table_same

/-- The two main programs are equal: each is the one call. -/
theorem main_same : Cert.Kernel.main (F := F) = Cert.KernelIdeal.main (F := F) := rfl

/-- On every device of the program, from any memory, all semaphores at zero: the run ends, faults
    nowhere, leaves the two arguments as they were and every semaphore at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [main_same, defs_same]
  exact (θ_run Cert.KernelIdeal.defs _ _).mono (fun _ h => ⟨fun c => (h.1 c).2, h.2⟩) (Cert.KernelIdealProof.run_result (F := F) m ρ)

end Cert.SameProgram

end
-- ==== Proof.lean ====
/-
  The claims, from the modules beside this one: the kernel's frame and its idealization's (Proof/Launch.lean,
  Proof/Same.lean), the reference's (a run of host operations), that no operation was rewritten, and that the
  kernel computes the reference (Proof/Value.lean).
-/
module

public import proofs.«01_k».proof.Defs
public import proofs.«01_k».proof.Proof.Gen.ReferenceIdeal
public import proofs.«01_k».proof.Proof.Gen.ReferenceIdeal.Run
public import proofs.«01_k».proof.Proof.Same

@[expose] public section

noncomputable section

namespace Cert.Proof

open Idealize.ShloMosaic Idealize.SL.Sem

attribute [local instance] Cert.Kernel.Gen.facts Cert.KernelIdeal.Gen.facts Cert.ReferenceIdeal.Gen.facts

/-- The kernel's frame, in machine floats. -/
theorem frame_kernel : Cert.quiescent_Kernel := fun m ρ _ => Cert.SameProgram.frame (F := Bits) m ρ

/-- The idealized kernel's frame. -/
theorem frame_kernelIdeal : Cert.quiescent_KernelIdeal := fun m ρ _ =>
  (θ_run Cert.KernelIdeal.defs _ _).mono (fun _ h => ⟨fun c => (h.1 c).2, h.2⟩) (Cert.KernelIdealProof.run_result (F := Ideal) m ρ)

/-- The reference's frame: a program of host operations, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic, from devices that each hold their block of the reference's two arrays, every device
    of the kernel ends with the reference's whole result, and both leave their arguments as they were. -/
theorem algebraic : Cert.algebraic_KernelIdeal_ReferenceIdeal := by
  intro m ρ m' ρ' _ hagree
  refine ⟨Cert.KernelIdealProof.act (Cert.KernelIdealProof.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))), ?_, ?_⟩
  · refine (θ_run Cert.KernelIdeal.defs _ _).mono (fun _ h c => ⟨(h.1 c).1.trans ?_, (h.1 c).2⟩)
      (Cert.KernelIdealProof.run_result (F := Ideal) m ρ)
    exact Cert.KernelIdealProof.outAll_eq m _ _
      (fun d => (Cert.KernelIdealProof.xA_eq m d).trans (hagree d).1) (fun d => (Cert.KernelIdealProof.xB_eq m d).trans (hagree d).2)
  · exact (θ_run Cert.ReferenceIdeal.defs _ _).mono (fun _ h => ⟨(h 0).1.trans rfl, (h 0).2⟩)
      (Cert.ReferenceIdeal.Value.run (F := Ideal) m' ρ')

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
